-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v24) = v4 c
          ∧ r.2.mem ((c.tc : Thread Cert.Reference2Ideal.nD Cert.Reference2Ideal.τ).loc Cert.Reference2Ideal.main_v26) = v5 c
          ∧ r.2.mem ((c.tc : Thread Cert.Reference2Ideal.nD Cert.Reference2Ideal.τ).loc Cert.Reference2Ideal.main_v27) = v6 c
          ∧ r.2.mem ((c.tc : Thread Cert.Reference2Ideal.nD Cert.Reference2Ideal.τ).loc Cert.Reference2Ideal.main_v28) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18)) (v1 : (c : Dev Cert.Kernel3Ideal.nD) → Buf (Elt Ideal) ((c.tc : Thread Cert.Kernel3Ideal.nD Cert.Kernel3Ideal.τ).loc Cert.Kernel3Ideal.main_v20)) (v2 : (c : Dev Cert.Kernel3Ideal.nD) → Buf (Elt Ideal) ((c.tc : Thread Cert.Kernel3Ideal.nD Cert.Kernel3Ideal.τ).loc Cert.Kernel3Ideal.main_v22)) (v3 : (c : Dev Cert.Kernel3Ideal.nD) → Buf (Elt Ideal) ((c.tc : Thread Cert.Kernel3Ideal.nD Cert.Kernel3Ideal.τ).loc Cert.Kernel3Ideal.main_v24)) (v4 : (c : Dev Cert.Kernel3Ideal.nD) → Buf (Elt Ideal) ((c.tc : Thread Cert.Kernel3Ideal.nD Cert.Kernel3Ideal.τ).loc Cert.Kernel3Ideal.main_v26)) (v5 : (c : Dev Cert.Kernel3Ideal.nD) → Buf (Elt Ideal) ((c.tc : Thread Cert.Kernel3Ideal.nD Cert.Kernel3Ideal.τ).loc Cert.Kernel3Ideal.main_v28)) (v6 : (c : Dev Cert.Kernel3Ideal.nD) → Buf (Elt Ideal) ((c.tc : Thread Cert.Kernel3Ideal.nD Cert.Kernel3Ideal.τ).loc Cert.Kernel3Ideal.main_v30)) (v7 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_v20) = v1 c
          ∧ r.2.mem ((c.tc : Thread Cert.Kernel3Ideal.nD Cert.Kernel3Ideal.τ).loc Cert.Kernel3Ideal.main_v22) = v2 c
          ∧ r.2.mem ((c.tc : Thread Cert.Kernel3Ideal.nD Cert.Kernel3Ideal.τ).loc Cert.Kernel3Ideal.main_v24) = v3 c
          ∧ r.2.mem ((c.tc : Thread Cert.Kernel3Ideal.nD Cert.Kernel3Ideal.τ).loc Cert.Kernel3Ideal.main_v26) = v4 c
          ∧ r.2.mem ((c.tc : Thread Cert.Kernel3Ideal.nD Cert.Kernel3Ideal.τ).loc Cert.Kernel3Ideal.main_v28) = v5 c
          ∧ r.2.mem ((c.tc : Thread Cert.Kernel3Ideal.nD Cert.Kernel3Ideal.τ).loc Cert.Kernel3Ideal.main_v30) = v6 c
          ∧ r.2.mem ((c.tc : Thread Cert.Kernel3Ideal.nD Cert.Kernel3Ideal.τ).loc Cert.Kernel3Ideal.main_v33) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_v17) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_v20) = v6 c
          ∧ r.2.mem ((c.tc : Thread Cert.Reference3Ideal.nD Cert.Reference3Ideal.τ).loc Cert.Reference3Ideal.main_v23) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v23)) (v1 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v104) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x5376 : Shape := ⟨2, ![1024, 5376]⟩
abbrev S5376 : Shape := ⟨1, ![5376]⟩
abbrev S3x5376 : Shape := ⟨2, ![3, 5376]⟩
abbrev S2688x1024 : Shape := ⟨2, ![2688, 1024]⟩
abbrev S512x1024 : Shape := ⟨2, ![512, 1024]⟩
abbrev S1x1024 : Shape := ⟨2, ![1, 1024]⟩
abbrev S1x5376 : Shape := ⟨2, ![1, 5376]⟩
abbrev S4x8x8x5376 : Shape := ⟨4, ![4, 8, 8, 5376]⟩
abbrev S1x512x1024 : Shape := ⟨3, ![1, 512, 1024]⟩
abbrev S1x512x512 : Shape := ⟨3, ![1, 512, 512]⟩
abbrev S1x1x8x5376 : Shape := ⟨4, ![1, 1, 8, 5376]⟩
abbrev S8x5376 : Shape := ⟨2, ![8, 5376]⟩
abbrev S520x896 : Shape := ⟨2, ![520, 896]⟩
abbrev S512x512 : Shape := ⟨2, ![512, 512]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩
abbrev S1x896 : Shape := ⟨2, ![1, 896]⟩
abbrev S8x896 : Shape := ⟨2, ![8, 896]⟩
abbrev S1x1x8x896 : Shape := ⟨4, ![1, 1, 8, 896]⟩
abbrev S896x1024 : Shape := ⟨2, ![896, 1024]⟩

abbrev nBuf : Space → Nat
  | .hbm => 29
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5376, .f32⟩
  | .hbm, ⟨7, _⟩ => ⟨S5376, .f32⟩
  | .hbm, ⟨8, _⟩ => ⟨S3x5376, .f32⟩
  | .hbm, ⟨9, _⟩ => ⟨S5376, .f32⟩
  | .hbm, ⟨10, _⟩ => ⟨S2688x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1x1024, .f32⟩
  | .hbm, ⟨19, _⟩ => ⟨S1x1024, .f32⟩
  | .hbm, ⟨20, _⟩ => ⟨S1024x5376, .bf16⟩
  | .hbm, ⟨21, _⟩ => ⟨S1x5376, .f32⟩
  | .hbm, ⟨22, _⟩ => ⟨S1x5376, .f32⟩
  | .hbm, ⟨23, _⟩ => ⟨S2688x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4x4096x1024, .f32⟩
  | .hbm, ⟨28, _⟩ => ⟨S4x8x8x5376, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x5376, .bf16⟩
  | .local _ .vmem, ⟨11, _⟩ => ⟨S1x5376, .f32⟩
  | .local _ .vmem, ⟨12, _⟩ => ⟨S3x5376, .f32⟩
  | .local _ .vmem, ⟨13, _⟩ => ⟨S1x5376, .f32⟩
  | .local _ .vmem, ⟨14, _⟩ => ⟨S2688x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x1x8x5376, .f32⟩
  | .local _ .vmem, ⟨21, _⟩ => ⟨S1x1x8x5376, .f32⟩
  | .local _ .vmem, ⟨22, _⟩ => ⟨S8x5376, .f32⟩
  | .local _ .vmem, ⟨23, _⟩ => ⟨S520x896, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5376 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5376 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5376 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5376 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2688x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x5376 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x5376 : Shape := ⟨2, ![1024, 5376]⟩
abbrev S5376 : Shape := ⟨1, ![5376]⟩
abbrev S3x5376 : Shape := ⟨2, ![3, 5376]⟩
abbrev S2688x1024 : Shape := ⟨2, ![2688, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5376 : Shape := ⟨3, ![4, 4096, 5376]⟩
abbrev S1x1x5376 : Shape := ⟨3, ![1, 1, 5376]⟩
abbrev S4x2x5376 : Shape := ⟨3, ![4, 2, 5376]⟩
abbrev S4x4098x5376 : Shape := ⟨3, ![4, 4098, 5376]⟩
abbrev S1x5376 : Shape := ⟨2, ![1, 5376]⟩
abbrev S4x4096x2688 : Shape := ⟨3, ![4, 4096, 2688]⟩
abbrev S4x8x512x5376 : Shape := ⟨4, ![4, 8, 512, 5376]⟩
abbrev S4x8x8x5376 : Shape := ⟨4, ![4, 8, 8, 5376]⟩

abbrev nBuf : Space → Nat
  | .hbm => 138
  | .vmem => 0
  | .smem => 0
  | _ => 0

abbrev hbmTy0_0 (i : Nat) : BufTy := match i % 128 with
  | 0 => ⟨S4x4096x1024, .f32⟩
  | 1 => ⟨S4x4096x512, .f32⟩
  | 2 => ⟨S4x4096x512, .f32⟩
  | 3 => ⟨S1024x1024, .f32⟩
  | 4 => ⟨S1024, .f32⟩
  | 5 => ⟨S1024, .f32⟩
  | 6 => ⟨S1024x5376, .f32⟩
  | 7 => ⟨S5376, .f32⟩
  | 8 => ⟨S3x5376, .f32⟩
  | 9 => ⟨S5376, .f32⟩
  | 10 => ⟨S2688x1024, .f32⟩
  | 11 => ⟨S1024, .f32⟩
  | 12 => ⟨S1024, .f32⟩
  | 13 => ⟨S1024, .f32⟩
  | 14 => ⟨S4x4096x1024, .f32⟩
  | 15 => ⟨S_, .f32⟩
  | 16 => ⟨S4x4096x1024, .f32⟩
  | 17 => ⟨S4x4096x1024, .f32⟩
  | 18 => ⟨S4x4096x1024, .f32⟩
  | 19 => ⟨S4x4096x1024, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S4x4096x1024, .f32⟩
  | 27 => ⟨S4x4096x1024, .f32⟩
  | 28 => ⟨S4x4096x1024, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S4x4096x1024, .f32⟩
  | 36 => ⟨S4x4096x1024, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S1x1x1024, .f32⟩
  | 47 => ⟨S4x4096x1024, .f32⟩
  | 48 => ⟨S4x4096x1024, .f32⟩
  | 49 => ⟨S4x4096x5376, .f32⟩
  | 50 => ⟨S1x1x5376, .f32⟩
  | 51 => ⟨S4x4096x5376, .f32⟩
  | 52 => ⟨S4x4096x5376, .f32⟩
  | 53 => ⟨S_, .f32⟩
  | 54 => ⟨S4x2x5376, .f32⟩
  | 55 => ⟨S4x4098x5376, .f32⟩
  | 56 => ⟨S4x4096x5376, .f32⟩
  | 57 => ⟨S1x5376, .f32⟩
  | 58 => ⟨S5376, .f32⟩
  | 59 => ⟨S1x1x5376, .f32⟩
  | 60 => ⟨S4x4096x5376, .f32⟩
  | 61 => ⟨S4x4096x5376, .f32⟩
  | 62 => ⟨S1x1x5376, .f32⟩
  | 63 => ⟨S4x4096x5376, .f32⟩
  | 64 => ⟨S4x4096x5376, .f32⟩
  | 65 => ⟨S4x4096x5376, .f32⟩
  | 66 => ⟨S1x5376, .f32⟩
  | 67 => ⟨S5376, .f32⟩
  | 68 => ⟨S1x1x5376, .f32⟩
  | 69 => ⟨S4x4096x5376, .f32⟩
  | 70 => ⟨S4x4096x5376, .f32⟩
  | 71 => ⟨S4x4096x5376, .f32⟩
  | 72 => ⟨S4x4096x5376, .f32⟩
  | 73 => ⟨S1x5376, .f32⟩
  | 74 => ⟨S5376, .f32⟩
  | 75 => ⟨S1x1x5376, .f32⟩
  | 76 => ⟨S4x4096x5376, .f32⟩
  | 77 => ⟨S4x4096x5376, .f32⟩
  | 78 => ⟨S4x4096x5376, .f32⟩
  | 79 => ⟨S4x4096x2688, .f32⟩
  | 80 => ⟨S4x4096x2688, .f32⟩
  | 81 => ⟨S4x4096x2688, .f32⟩
  | 82 => ⟨S_, .f32⟩
  | 83 => ⟨S4x4096x2688, .f32⟩
  | 84 => ⟨S4x4096x2688, .f32⟩
  | 85 => ⟨S4x4096x2688, .f32⟩
  | 86 => ⟨S_, .f32⟩
  | 87 => ⟨S4x4096x2688, .f32⟩
  | 88 => ⟨S4x4096x2688, .f32⟩
  | 89 => ⟨S4x4096x2688, .f32⟩
  | 90 => ⟨S_, .f32⟩
  | 91 => ⟨S4x4096x2688, .f32⟩
  | 92 => ⟨S4x4096x2688, .f32⟩
  | 93 => ⟨S_, .f32⟩
  | 94 => ⟨S4x4096x2688, .f32⟩
  | 95 => ⟨S4x4096x2688, .f32⟩
  | 96 => ⟨S4x4096x2688, .f32⟩
  | 97 => ⟨S4x4096x2688, .f32⟩
  | 98 => ⟨S4x4096x2688, .f32⟩
  | 99 => ⟨S4x4096x1024, .f32⟩
  | 100 => ⟨S1x1x1024, .f32⟩
  | 101 => ⟨S4x4096x1024, .f32⟩
  | 102 => ⟨S4x4096x1024, .f32⟩
  | 103 => ⟨S_, .f32⟩
  | 104 => ⟨S4x4096x1024, .f32⟩
  | 105 => ⟨S4x4096x1024, .f32⟩
  | 106 => ⟨S4x4096x1024, .f32⟩
  | 107 => ⟨S_, .f32⟩
  | 108 => ⟨S4x4096, .f32⟩
  | 109 => ⟨S4x4096x1, .f32⟩
  | 110 => ⟨S_, .f32⟩
  | 111 => ⟨S4x4096x1, .f32⟩
  | 112 => ⟨S4x4096x1, .f32⟩
  | 113 => ⟨S4x4096x1024, .f32⟩
  | 114 => ⟨S4x4096x1024, .f32⟩
  | 115 => ⟨S4x4096x1024, .f32⟩
  | 116 => ⟨S_, .f32⟩
  | 117 => ⟨S4x4096, .f32⟩
  | 118 => ⟨S4x4096x1, .f32⟩
  | 119 => ⟨S_, .f32⟩
  | 120 => ⟨S4x4096x1, .f32⟩
  | 121 => ⟨S4x4096x1, .f32⟩
  | 122 => ⟨S4x4096x1024, .f32⟩
  | 123 => ⟨S4x4096x1024, .f32⟩
  | 124 => ⟨S_, .f32⟩
  | 125 => ⟨S4x4096x1, .f32⟩
  | 126 => ⟨S4x4096x1, .f32⟩
  | 127 => ⟨S4x4096x1, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S1x1x1024, .f32⟩
  | 3 => ⟨S4x4096x1024, .f32⟩
  | 4 => ⟨S4x4096x1024, .f32⟩
  | 5 => ⟨S1x1x1024, .f32⟩
  | 6 => ⟨S4x4096x1024, .f32⟩
  | 7 => ⟨S4x4096x1024, .f32⟩
  | 8 => ⟨S4x8x512x5376, .f32⟩
  | 9 => ⟨S4x8x8x5376, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_v89 : Ref sig .tc := ⟨.hbm, 118, rfl⟩
abbrev main_cst_14 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x3368 : Shape := ⟨2, ![1024, 3368]⟩
abbrev S3368 : Shape := ⟨1, ![3368]⟩
abbrev S1024x2048 : Shape := ⟨2, ![1024, 2048]⟩
abbrev S1024x1280 : Shape := ⟨2, ![1024, 1280]⟩
abbrev S1024x16 : Shape := ⟨2, ![1024, 16]⟩
abbrev S1024x24 : Shape := ⟨2, ![1024, 24]⟩
abbrev S_ : Shape := ⟨0, ![]⟩
abbrev S1024x88 : Shape := ⟨2, ![1024, 88]⟩
abbrev S1024x3456 : Shape := ⟨2, ![1024, 3456]⟩
abbrev S2048 : Shape := ⟨1, ![2048]⟩
abbrev S1280 : Shape := ⟨1, ![1280]⟩
abbrev S16 : Shape := ⟨1, ![16]⟩
abbrev S24 : Shape := ⟨1, ![24]⟩
abbrev S88 : Shape := ⟨1, ![88]⟩
abbrev S3456 : Shape := ⟨1, ![3456]⟩
abbrev S1x3456 : Shape := ⟨2, ![1, 3456]⟩
abbrev S16384x1024 : Shape := ⟨2, ![16384, 1024]⟩
abbrev S1024x512 : Shape := ⟨2, ![1024, 512]⟩
abbrev S512x1024 : Shape := ⟨2, ![512, 1024]⟩
abbrev S1x512 : Shape := ⟨2, ![1, 512]⟩
abbrev S512 : Shape := ⟨1, ![512]⟩
abbrev S512x1 : Shape := ⟨2, ![512, 1]⟩
abbrev S16384x512 : Shape := ⟨2, ![16384, 512]⟩
abbrev S16384x256 : Shape := ⟨2, ![16384, 256]⟩
abbrev S16384x128 : Shape := ⟨2, ![16384, 128]⟩
abbrev S4x512x4096 : Shape := ⟨3, ![4, 512, 4096]⟩
abbrev S512x512 : Shape := ⟨2, ![512, 512]⟩
abbrev S512x256 : Shape := ⟨2, ![512, 256]⟩
abbrev S512x128 : Shape := ⟨2, ![512, 128]⟩
abbrev S1x512x512 : Shape := ⟨3, ![1, 512, 512]⟩
abbrev S512x3456 : Shape := ⟨2, ![512, 3456]⟩

abbrev nBuf : Space → Nat
  | .hbm => 33
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x3368, .f32⟩
  | .hbm, ⟨2, _⟩ => ⟨S3368, .f32⟩
  | .hbm, ⟨3, _⟩ => ⟨S1024x2048, .f32⟩
  | .hbm, ⟨4, _⟩ => ⟨S1024x1280, .f32⟩
  | .hbm, ⟨5, _⟩ => ⟨S1024x16, .f32⟩
  | .hbm, ⟨6, _⟩ => ⟨S1024x24, .f32⟩
  | .hbm, ⟨7, _⟩ => ⟨S_, .f32⟩
  | .hbm, ⟨8, _⟩ => ⟨S1024x88, .f32⟩
  | .hbm, ⟨9, _⟩ => ⟨S1024x3456, .f32⟩
  | .hbm, ⟨10, _⟩ => ⟨S1024x3456, .bf16⟩
  | .hbm, ⟨11, _⟩ => ⟨S2048, .f32⟩
  | .hbm, ⟨12, _⟩ => ⟨S1280, .f32⟩
  | .hbm, ⟨13, _⟩ => ⟨S16, .f32⟩
  | .hbm, ⟨14, _⟩ => ⟨S24, .f32⟩
  | .hbm, ⟨15, _⟩ => ⟨S_, .f32⟩
  | .hbm, ⟨16, _⟩ => ⟨S88, .f32⟩
  | .hbm, ⟨17, _⟩ => ⟨S3456, .f32⟩
  | .hbm, ⟨18, _⟩ => ⟨S1x3456, .f32⟩
  | .hbm, ⟨19, _⟩ => ⟨S16384x1024, .f32⟩
  | .hbm, ⟨20, _⟩ => ⟨S1024x512, .bf16⟩
  | .hbm, ⟨21, _⟩ => ⟨S512x1024, .bf16⟩
  | .hbm, ⟨22, _⟩ => ⟨S1x512, .f32⟩
  | .hbm, ⟨23, _⟩ => ⟨S512, .f32⟩
  | .hbm, ⟨24, _⟩ => ⟨S512x1, .f32⟩
  | .hbm, ⟨25, _⟩ => ⟨S16384x1024, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x256, .f32⟩
  | .hbm, ⟨31, _⟩ => ⟨S16384x128, .f32⟩
  | .hbm, ⟨32, _⟩ => ⟨S4x512x4096, .f32⟩
  | .local _ .vmem, ⟨0, _⟩ => ⟨S512x1024, .f32⟩
  | .local _ .vmem, ⟨1, _⟩ => ⟨S512x1024, .f32⟩
  | .local _ .vmem, ⟨2, _⟩ => ⟨S1024x3456, .bf16⟩
  | .local _ .vmem, ⟨3, _⟩ => ⟨S1x3456, .f32⟩
  | .local _ .vmem, ⟨4, _⟩ => ⟨S512x1024, .bf16⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S1x512x512, .f32⟩
  | .local _ .vmem, ⟨21, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev main_v20_4 : Ref sig .tc := ⟨.hbm, 29, rfl⟩
abbrev main_v20_5 : Ref sig .tc := ⟨.hbm, 30, rfl⟩
abbrev main_v20_6 : Ref sig .tc := ⟨.hbm, 31, rfl⟩
abbrev main_v20_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x4096x1024 : Shape := ⟨3, ![4, 4096, 1024]⟩
abbrev S1024x3368 : Shape := ⟨2, ![1024, 3368]⟩
abbrev S3368 : Shape := ⟨1, ![3368]⟩
abbrev S4x4096x3368 : Shape := ⟨3, ![4, 4096, 3368]⟩
abbrev S1x1x3368 : Shape := ⟨3, ![1, 1, 3368]⟩
abbrev S4x4096x512 : Shape := ⟨3, ![4, 4096, 512]⟩
abbrev S4x4096x8 : Shape := ⟨3, ![4, 4096, 8]⟩
abbrev S4x4096x128 : Shape := ⟨3, ![4, 4096, 128]⟩
abbrev S4x4096x24 : Shape := ⟨3, ![4, 4096, 24]⟩
abbrev S_ : Shape := ⟨0, ![]⟩
abbrev S4x4096x88 : Shape := ⟨3, ![4, 4096, 88]⟩
abbrev S16384x1024 : Shape := ⟨2, ![16384, 1024]⟩
abbrev S16384x512 : Shape := ⟨2, ![16384, 512]⟩
abbrev S4x4096x256 : Shape := ⟨3, ![4, 4096, 256]⟩
abbrev S16384x256 : Shape := ⟨2, ![16384, 256]⟩
abbrev S16384x128 : Shape := ⟨2, ![16384, 128]⟩
abbrev S4x512x4096 : Shape := ⟨3, ![4, 512, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3368, .f32⟩
  | .hbm, ⟨2, _⟩ => ⟨S3368, .f32⟩
  | .hbm, ⟨3, _⟩ => ⟨S4x4096x3368, .f32⟩
  | .hbm, ⟨4, _⟩ => ⟨S1x1x3368, .f32⟩
  | .hbm, ⟨5, _⟩ => ⟨S4x4096x3368, .f32⟩
  | .hbm, ⟨6, _⟩ => ⟨S4x4096x3368, .f32⟩
  | .hbm, ⟨7, _⟩ => ⟨S4x4096x1024, .f32⟩
  | .hbm, ⟨8, _⟩ => ⟨S4x4096x512, .f32⟩
  | .hbm, ⟨9, _⟩ => ⟨S4x4096x512, .f32⟩
  | .hbm, ⟨10, _⟩ => ⟨S4x4096x8, .f32⟩
  | .hbm, ⟨11, _⟩ => ⟨S4x4096x8, .f32⟩
  | .hbm, ⟨12, _⟩ => ⟨S4x4096x512, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S4x4096x24, .f32⟩
  | .hbm, ⟨20, _⟩ => ⟨S4x4096x512, .f32⟩
  | .hbm, ⟨21, _⟩ => ⟨S_, .f32⟩
  | .hbm, ⟨22, _⟩ => ⟨S4x4096x88, .f32⟩
  | .hbm, ⟨23, _⟩ => ⟨S4x4096x128, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S4x4096x256, .f32⟩
  | .hbm, ⟨30, _⟩ => ⟨S16384x256, .f32⟩
  | .hbm, ⟨31, _⟩ => ⟨S16384x128, .f32⟩
  | .hbm, ⟨32, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel3.lean ====
abbrev S32x4x1024 : Shape := ⟨3, ![32, 4, 1024]⟩
abbrev S1024x3368 : Shape := ⟨2, ![1024, 3368]⟩
abbrev S3368 : Shape := ⟨1, ![3368]⟩
abbrev S32x512x2x2x64 : Shape := ⟨5, ![32, 512, 2, 2, 64]⟩
abbrev S1024x2048 : Shape := ⟨2, ![1024, 2048]⟩
abbrev S1024x1280 : Shape := ⟨2, ![1024, 1280]⟩
abbrev S1024x16 : Shape := ⟨2, ![1024, 16]⟩
abbrev S1024x24 : Shape := ⟨2, ![1024, 24]⟩
abbrev S_ : Shape := ⟨0, ![]⟩
abbrev S1024x88 : Shape := ⟨2, ![1024, 88]⟩
abbrev S1024x3456 : Shape := ⟨2, ![1024, 3456]⟩
abbrev S2048 : Shape := ⟨1, ![2048]⟩
abbrev S1280 : Shape := ⟨1, ![1280]⟩
abbrev S16 : Shape := ⟨1, ![16]⟩
abbrev S24 : Shape := ⟨1, ![24]⟩
abbrev S88 : Shape := ⟨1, ![88]⟩
abbrev S3456 : Shape := ⟨1, ![3456]⟩
abbrev S1x3456 : Shape := ⟨2, ![1, 3456]⟩
abbrev S32x8x1024 : Shape := ⟨3, ![32, 8, 1024]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256x3456 : Shape := ⟨2, ![256, 3456]⟩
abbrev S32x8x512 : Shape := ⟨3, ![32, 8, 512]⟩
abbrev S32x4x512 : Shape := ⟨3, ![32, 4, 512]⟩
abbrev S32x8x256 : Shape := ⟨3, ![32, 8, 256]⟩
abbrev S32x4x256 : Shape := ⟨3, ![32, 4, 256]⟩
abbrev S32x8x128 : Shape := ⟨3, ![32, 8, 128]⟩
abbrev S32x4x128 : Shape := ⟨3, ![32, 4, 128]⟩
abbrev S32x508x2x2x64 : Shape := ⟨5, ![32, 508, 2, 2, 64]⟩
abbrev S32x4x2x2x64 : Shape := ⟨5, ![32, 4, 2, 2, 64]⟩

abbrev nBuf : Space → Nat
  | .hbm => 48
  | .vmem => 10
  | .smem => 0
  | _ => 0

abbrev bufTy : (tb : Table) → Fin (tcTables nBuf tb) → BufTy
  | .hbm, ⟨0, _⟩ => ⟨S32x4x1024, .f32⟩
  | .hbm, ⟨1, _⟩ => ⟨S1024x3368, .f32⟩
  | .hbm, ⟨2, _⟩ => ⟨S3368, .f32⟩
  | .hbm, ⟨3, _⟩ => ⟨S32x512x2x2x64, .f32⟩
  | .hbm, ⟨4, _⟩ => ⟨S1024x2048, .f32⟩
  | .hbm, ⟨5, _⟩ => ⟨S1024x1280, .f32⟩
  | .hbm, ⟨6, _⟩ => ⟨S1024x16, .f32⟩
  | .hbm, ⟨7, _⟩ => ⟨S1024x24, .f32⟩
  | .hbm, ⟨8, _⟩ => ⟨S_, .f32⟩
  | .hbm, ⟨9, _⟩ => ⟨S1024x88, .f32⟩
  | .hbm, ⟨10, _⟩ => ⟨S1024x3456, .f32⟩
  | .hbm, ⟨11, _⟩ => ⟨S1024x3456, .bf16⟩
  | .hbm, ⟨12, _⟩ => ⟨S2048, .f32⟩
  | .hbm, ⟨13, _⟩ => ⟨S1280, .f32⟩
  | .hbm, ⟨14, _⟩ => ⟨S16, .f32⟩
  | .hbm, ⟨15, _⟩ => ⟨S24, .f32⟩
  | .hbm, ⟨16, _⟩ => ⟨S_, .f32⟩
  | .hbm, ⟨17, _⟩ => ⟨S88, .f32⟩
  | .hbm, ⟨18, _⟩ => ⟨S3456, .f32⟩
  | .hbm, ⟨19, _⟩ => ⟨S1x3456, .f32⟩
  | .hbm, ⟨20, _⟩ => ⟨S_, .i32⟩
  | .hbm, ⟨21, _⟩ => ⟨S_, .f32⟩
  | .hbm, ⟨22, _⟩ => ⟨S32x8x1024, .f32⟩
  | .hbm, ⟨23, _⟩ => ⟨S256x1024, .f32⟩
  | .hbm, ⟨24, _⟩ => ⟨S256x1024, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S256x256, .f32⟩
  | .hbm, ⟨30, _⟩ => ⟨S256x128, .f32⟩
  | .hbm, ⟨31, _⟩ => ⟨S32x8x1024, .f32⟩
  | .hbm, ⟨32, _⟩ => ⟨S32x4x1024, .f32⟩
  | .hbm, ⟨33, _⟩ => ⟨S32x8x512, .f32⟩
  | .hbm, ⟨34, _⟩ => ⟨S32x4x512, .f32⟩
  | .hbm, ⟨35, _⟩ => ⟨S32x8x512, .f32⟩
  | .hbm, ⟨36, _⟩ => ⟨S32x4x512, .f32⟩
  | .hbm, ⟨37, _⟩ => ⟨S32x8x512, .f32⟩
  | .hbm, ⟨38, _⟩ => ⟨S32x4x512, .f32⟩
  | .hbm, ⟨39, _⟩ => ⟨S32x8x512, .f32⟩
  | .hbm, ⟨40, _⟩ => ⟨S32x4x512, .f32⟩
  | .hbm, ⟨41, _⟩ => ⟨S32x8x256, .f32⟩
  | .hbm, ⟨42, _⟩ => ⟨S32x4x256, .f32⟩
  | .hbm, ⟨43, _⟩ => ⟨S32x8x128, .f32⟩
  | .hbm, ⟨44, _⟩ => ⟨S32x4x128, .f32⟩
  | .hbm, ⟨45, _⟩ => ⟨S32x508x2x2x64, .f32⟩
  | .hbm, ⟨46, _⟩ => ⟨S32x4x2x2x64, .f32⟩
  | .hbm, ⟨47, _⟩ => ⟨S32x512x2x2x64, .f32⟩
  | .local _ .vmem, ⟨0, _⟩ => ⟨S256x1024, .f32⟩
  | .local _ .vmem, ⟨1, _⟩ => ⟨S1024x3456, .bf16⟩
  | .local _ .vmem, ⟨2, _⟩ => ⟨S1x3456, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference3Ideal.lean ====
abbrev S32x4x1024 : Shape := ⟨3, ![32, 4, 1024]⟩
abbrev S1024x3368 : Shape := ⟨2, ![1024, 3368]⟩
abbrev S3368 : Shape := ⟨1, ![3368]⟩
abbrev S32x512x2x2x64 : Shape := ⟨5, ![32, 512, 2, 2, 64]⟩
abbrev S32x4x3368 : Shape := ⟨3, ![32, 4, 3368]⟩
abbrev S1x1x3368 : Shape := ⟨3, ![1, 1, 3368]⟩
abbrev S32x4x512 : Shape := ⟨3, ![32, 4, 512]⟩
abbrev S32x4x8 : Shape := ⟨3, ![32, 4, 8]⟩
abbrev S32x4x128 : Shape := ⟨3, ![32, 4, 128]⟩
abbrev S32x4x24 : Shape := ⟨3, ![32, 4, 24]⟩
abbrev S32x4x256 : Shape := ⟨3, ![32, 4, 256]⟩
abbrev S_ : Shape := ⟨0, ![]⟩
abbrev S32x4x88 : Shape := ⟨3, ![32, 4, 88]⟩
abbrev S32x4x2x2x64 : Shape := ⟨5, ![32, 4, 2, 2, 64]⟩
abbrev S32x516x2x2x64 : Shape := ⟨5, ![32, 516, 2, 2, 64]⟩

abbrev nBuf : Space → Nat
  | .hbm => 29
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024x3368, .f32⟩
  | .hbm, ⟨2, _⟩ => ⟨S3368, .f32⟩
  | .hbm, ⟨3, _⟩ => ⟨S32x512x2x2x64, .f32⟩
  | .hbm, ⟨4, _⟩ => ⟨S32x4x3368, .f32⟩
  | .hbm, ⟨5, _⟩ => ⟨S1x1x3368, .f32⟩
  | .hbm, ⟨6, _⟩ => ⟨S32x4x3368, .f32⟩
  | .hbm, ⟨7, _⟩ => ⟨S32x4x3368, .f32⟩
  | .hbm, ⟨8, _⟩ => ⟨S32x4x1024, .f32⟩
  | .hbm, ⟨9, _⟩ => ⟨S32x4x512, .f32⟩
  | .hbm, ⟨10, _⟩ => ⟨S32x4x512, .f32⟩
  | .hbm, ⟨11, _⟩ => ⟨S32x4x8, .f32⟩
  | .hbm, ⟨12, _⟩ => ⟨S32x4x8, .f32⟩
  | .hbm, ⟨13, _⟩ => ⟨S32x4x512, .f32⟩
  | .hbm, ⟨14, _⟩ => ⟨S32x4x128, .f32⟩
  | .hbm, ⟨15, _⟩ => ⟨S32x4x128, .f32⟩
  | .hbm, ⟨16, _⟩ => ⟨S32x4x128, .f32⟩
  | .hbm, ⟨17, _⟩ => ⟨S32x4x128, .f32⟩
  | .hbm, ⟨18, _⟩ => ⟨S32x4x128, .f32⟩
  | .hbm, ⟨19, _⟩ => ⟨S32x4x128, .f32⟩
  | .hbm, ⟨20, _⟩ => ⟨S32x4x24, .f32⟩
  | .hbm, ⟨21, _⟩ => ⟨S32x4x512, .f32⟩
  | .hbm, ⟨22, _⟩ => ⟨S32x4x256, .f32⟩
  | .hbm, ⟨23, _⟩ => ⟨S_, .f32⟩
  | .hbm, ⟨24, _⟩ => ⟨S32x4x88, .f32⟩
  | .hbm, ⟨25, _⟩ => ⟨S32x4x128, .f32⟩
  | .hbm, ⟨26, _⟩ => ⟨S32x4x2x2x64, .f32⟩
  | .hbm, ⟨27, _⟩ => ⟨S32x516x2x2x64, .f32⟩
  | .hbm, ⟨28, _⟩ => ⟨S32x512x2x2x64, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel4.lean ====
abbrev S32x4x1024 : Shape := ⟨3, ![32, 4, 1024]⟩
abbrev S32x8x512 : Shape := ⟨3, ![32, 8, 512]⟩
abbrev S32x2x5376 : Shape := ⟨3, ![32, 2, 5376]⟩
abbrev S1024x1024 : Shape := ⟨2, ![1024, 1024]⟩
abbrev S1024 : Shape := ⟨1, ![1024]⟩
abbrev S1024x5376 : Shape := ⟨2, ![1024, 5376]⟩
abbrev S5376 : Shape := ⟨1, ![5376]⟩
abbrev S3x5376 : Shape := ⟨2, ![3, 5376]⟩
abbrev S2688x1024 : Shape := ⟨2, ![2688, 1024]⟩
abbrev S512x1024 : Shape := ⟨2, ![512, 1024]⟩
abbrev S1x1024 : Shape := ⟨2, ![1, 1024]⟩
abbrev S1x5376 : Shape := ⟨2, ![1, 5376]⟩
abbrev S_ : Shape := ⟨0, ![]⟩
abbrev S32x8x1024 : Shape := ⟨3, ![32, 8, 1024]⟩
abbrev S32x4x5376 : Shape := ⟨3, ![32, 4, 5376]⟩
abbrev S32x8x5376 : Shape := ⟨3, ![32, 8, 5376]⟩
abbrev S1x256x1024 : Shape := ⟨3, ![1, 256, 1024]⟩
abbrev S1x256x512 : Shape := ⟨3, ![1, 256, 512]⟩
abbrev S1x256x5376 : Shape := ⟨3, ![1, 256, 5376]⟩
abbrev S1x1x256x5376 : Shape := ⟨4, ![1, 1, 256, 5376]⟩
abbrev S8x5376 : Shape := ⟨2, ![8, 5376]⟩
abbrev S264x896 : Shape := ⟨2, ![264, 896]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x896 : Shape := ⟨2, ![256, 896]⟩
abbrev S1024x896 : Shape := ⟨2, ![1024, 896]⟩
abbrev S1x896 : Shape := ⟨2, ![1, 896]⟩
abbrev S1x256x896 : Shape := ⟨3, ![1, 256, 896]⟩
abbrev S8x896 : Shape := ⟨2, ![8, 896]⟩
abbrev S1x1x256x896 : Shape := ⟨4, ![1, 1, 256, 896]⟩
abbrev S896x1024 : Shape := ⟨2, ![896, 1024]⟩

abbrev nBuf : Space → Nat
  | .hbm => 46
  | .vmem => 20
  | .smem => 0
  | _ => 0

abbrev bufTy : (tb : Table) → Fin (tcTables nBuf tb) → BufTy
  | .hbm, ⟨0, _⟩ => ⟨S32x4x1024, .f32⟩
  | .hbm, ⟨1, _⟩ => ⟨S32x8x512, .f32⟩
  | .hbm, ⟨2, _⟩ => ⟨S32x8x512, .f32⟩
  | .hbm, ⟨3, _⟩ => ⟨S32x2x5376, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x5376, .f32⟩
  | .hbm, ⟨8, _⟩ => ⟨S5376, .f32⟩
  | .hbm, ⟨9, _⟩ => ⟨S3x5376, .f32⟩
  | .hbm, ⟨10, _⟩ => ⟨S5376, .f32⟩
  | .hbm, ⟨11, _⟩ => ⟨S2688x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S1024x5376, .bf16⟩
  | .hbm, ⟨22, _⟩ => ⟨S1x5376, .f32⟩
  | .hbm, ⟨23, _⟩ => ⟨S1x5376, .f32⟩
  | .hbm, ⟨24, _⟩ => ⟨S2688x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .i32⟩
  | .hbm, ⟨29, _⟩ => ⟨S_, .f32⟩
  | .hbm, ⟨30, _⟩ => ⟨S32x8x1024, .f32⟩
  | .hbm, ⟨31, _⟩ => ⟨S_, .f32⟩
  | .hbm, ⟨32, _⟩ => ⟨S32x2x5376, .f32⟩
  | .hbm, ⟨33, _⟩ => ⟨S_, .f32⟩
  | .hbm, ⟨34, _⟩ => ⟨S32x4x5376, .f32⟩
  | .hbm, ⟨35, _⟩ => ⟨S32x8x5376, .f32⟩
  | .hbm, ⟨36, _⟩ => ⟨S1x256x1024, .f32⟩
  | .hbm, ⟨37, _⟩ => ⟨S1x256x512, .f32⟩
  | .hbm, ⟨38, _⟩ => ⟨S1x256x512, .f32⟩
  | .hbm, ⟨39, _⟩ => ⟨S1x256x5376, .f32⟩
  | .hbm, ⟨40, _⟩ => ⟨S1x256x1024, .f32⟩
  | .hbm, ⟨41, _⟩ => ⟨S1x1x256x5376, .f32⟩
  | .hbm, ⟨42, _⟩ => ⟨S32x8x1024, .f32⟩
  | .hbm, ⟨43, _⟩ => ⟨S32x4x1024, .f32⟩
  | .hbm, ⟨44, _⟩ => ⟨S32x8x5376, .f32⟩
  | .hbm, ⟨45, _⟩ => ⟨S32x2x5376, .f32⟩
  | .local _ .vmem, ⟨0, _⟩ => ⟨S1x256x1024, .f32⟩
  | .local _ .vmem, ⟨1, _⟩ => ⟨S1x256x512, .f32⟩
  | .local _ .vmem, ⟨2, _⟩ => ⟨S1x256x512, .f32⟩
  | .local _ .vmem, ⟨3, _⟩ => ⟨S1x256x5376, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1024x5376, .bf16⟩
  | .local _ .vmem, ⟨9, _⟩ => ⟨S1x5376, .f32⟩
  | .local _ .vmem, ⟨10, _⟩ => ⟨S3x5376, .f32⟩
  | .local _ .vmem, ⟨11, _⟩ => ⟨S1x5376, .f32⟩
  | .local _ .vmem, ⟨12, _⟩ => ⟨S2688x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x256x1024, .f32⟩
  | .local _ .vmem, ⟨17, _⟩ => ⟨S1x1x256x5376, .f32⟩
  | .local _ .vmem, ⟨18, _⟩ => ⟨S8x5376, .f32⟩
  | .local _ .vmem, ⟨19, _⟩ => ⟨S264x896, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5376 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5376 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x5376 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x5376 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2688x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x1x256x5376 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== Reference4Ideal.lean ====
abbrev S32x4x1024 : Shape := ⟨3, ![32, 4, 1024]⟩
abbrev S32x8x512 : Shape := ⟨3, ![32, 8, 512]⟩
abbrev S32x2x5376 : Shape := ⟨3, ![32, 2, 5376]⟩
abbrev S1024x1024 : Shape := ⟨2, ![1024, 1024]⟩
abbrev S1024 : Shape := ⟨1, ![1024]⟩
abbrev S1024x5376 : Shape := ⟨2, ![1024, 5376]⟩
abbrev S5376 : Shape := ⟨1, ![5376]⟩
abbrev S3x5376 : Shape := ⟨2, ![3, 5376]⟩
abbrev S2688x1024 : Shape := ⟨2, ![2688, 1024]⟩
abbrev S32x8x1024 : Shape := ⟨3, ![32, 8, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5376 : Shape := ⟨3, ![32, 4, 5376]⟩
abbrev S1x1x5376 : Shape := ⟨3, ![1, 1, 5376]⟩
abbrev S32x6x5376 : Shape := ⟨3, ![32, 6, 5376]⟩
abbrev S1x5376 : Shape := ⟨2, ![1, 5376]⟩
abbrev S32x4x2688 : Shape := ⟨3, ![32, 4, 2688]⟩

abbrev nBuf : Space → Nat
  | .hbm => 137
  | .vmem => 0
  | .smem => 0
  | _ => 0

abbrev hbmTy0_0 (i : Nat) : BufTy := match i % 128 with
  | 0 => ⟨S32x4x1024, .f32⟩
  | 1 => ⟨S32x8x512, .f32⟩
  | 2 => ⟨S32x8x512, .f32⟩
  | 3 => ⟨S32x2x5376, .f32⟩
  | 4 => ⟨S1024x1024, .f32⟩
  | 5 => ⟨S1024, .f32⟩
  | 6 => ⟨S1024, .f32⟩
  | 7 => ⟨S1024x5376, .f32⟩
  | 8 => ⟨S5376, .f32⟩
  | 9 => ⟨S3x5376, .f32⟩
  | 10 => ⟨S5376, .f32⟩
  | 11 => ⟨S2688x1024, .f32⟩
  | 12 => ⟨S1024, .f32⟩
  | 13 => ⟨S1024, .f32⟩
  | 14 => ⟨S1024, .f32⟩
  | 15 => ⟨S32x8x1024, .f32⟩
  | 16 => ⟨S32x4x1024, .f32⟩
  | 17 => ⟨S_, .f32⟩
  | 18 => ⟨S32x4x1024, .f32⟩
  | 19 => ⟨S32x4x1024, .f32⟩
  | 20 => ⟨S32x4x1024, .f32⟩
  | 21 => ⟨S32x4x1024, .f32⟩
  | 22 => ⟨S_, .f32⟩
  | 23 => ⟨S32x4, .f32⟩
  | 24 => ⟨S32x4x1, .f32⟩
  | 25 => ⟨S_, .f32⟩
  | 26 => ⟨S32x4x1, .f32⟩
  | 27 => ⟨S32x4x1, .f32⟩
  | 28 => ⟨S32x4x1024, .f32⟩
  | 29 => ⟨S32x4x1024, .f32⟩
  | 30 => ⟨S32x4x1024, .f32⟩
  | 31 => ⟨S_, .f32⟩
  | 32 => ⟨S32x4, .f32⟩
  | 33 => ⟨S32x4x1, .f32⟩
  | 34 => ⟨S_, .f32⟩
  | 35 => ⟨S32x4x1, .f32⟩
  | 36 => ⟨S32x4x1, .f32⟩
  | 37 => ⟨S32x4x1024, .f32⟩
  | 38 => ⟨S32x4x1024, .f32⟩
  | 39 => ⟨S_, .f32⟩
  | 40 => ⟨S32x4x1, .f32⟩
  | 41 => ⟨S32x4x1, .f32⟩
  | 42 => ⟨S32x4x1, .f32⟩
  | 43 => ⟨S32x4x1024, .f32⟩
  | 44 => ⟨S32x4x1024, .f32⟩
  | 45 => ⟨S1x1x1024, .f32⟩
  | 46 => ⟨S32x4x1024, .f32⟩
  | 47 => ⟨S32x4x1024, .f32⟩
  | 48 => ⟨S1x1x1024, .f32⟩
  | 49 => ⟨S32x4x1024, .f32⟩
  | 50 => ⟨S32x4x1024, .f32⟩
  | 51 => ⟨S32x4x5376, .f32⟩
  | 52 => ⟨S1x1x5376, .f32⟩
  | 53 => ⟨S32x4x5376, .f32⟩
  | 54 => ⟨S32x4x5376, .f32⟩
  | 55 => ⟨S32x6x5376, .f32⟩
  | 56 => ⟨S32x4x5376, .f32⟩
  | 57 => ⟨S1x5376, .f32⟩
  | 58 => ⟨S5376, .f32⟩
  | 59 => ⟨S1x1x5376, .f32⟩
  | 60 => ⟨S32x4x5376, .f32⟩
  | 61 => ⟨S32x4x5376, .f32⟩
  | 62 => ⟨S1x1x5376, .f32⟩
  | 63 => ⟨S32x4x5376, .f32⟩
  | 64 => ⟨S32x4x5376, .f32⟩
  | 65 => ⟨S32x4x5376, .f32⟩
  | 66 => ⟨S1x5376, .f32⟩
  | 67 => ⟨S5376, .f32⟩
  | 68 => ⟨S1x1x5376, .f32⟩
  | 69 => ⟨S32x4x5376, .f32⟩
  | 70 => ⟨S32x4x5376, .f32⟩
  | 71 => ⟨S32x4x5376, .f32⟩
  | 72 => ⟨S32x4x5376, .f32⟩
  | 73 => ⟨S1x5376, .f32⟩
  | 74 => ⟨S5376, .f32⟩
  | 75 => ⟨S1x1x5376, .f32⟩
  | 76 => ⟨S32x4x5376, .f32⟩
  | 77 => ⟨S32x4x5376, .f32⟩
  | 78 => ⟨S32x4x5376, .f32⟩
  | 79 => ⟨S32x4x2688, .f32⟩
  | 80 => ⟨S32x4x2688, .f32⟩
  | 81 => ⟨S32x4x2688, .f32⟩
  | 82 => ⟨S_, .f32⟩
  | 83 => ⟨S32x4x2688, .f32⟩
  | 84 => ⟨S32x4x2688, .f32⟩
  | 85 => ⟨S32x4x2688, .f32⟩
  | 86 => ⟨S_, .f32⟩
  | 87 => ⟨S32x4x2688, .f32⟩
  | 88 => ⟨S32x4x2688, .f32⟩
  | 89 => ⟨S32x4x2688, .f32⟩
  | 90 => ⟨S_, .f32⟩
  | 91 => ⟨S32x4x2688, .f32⟩
  | 92 => ⟨S32x4x2688, .f32⟩
  | 93 => ⟨S_, .f32⟩
  | 94 => ⟨S32x4x2688, .f32⟩
  | 95 => ⟨S32x4x2688, .f32⟩
  | 96 => ⟨S32x4x2688, .f32⟩
  | 97 => ⟨S32x4x2688, .f32⟩
  | 98 => ⟨S32x4x2688, .f32⟩
  | 99 => ⟨S32x4x1024, .f32⟩
  | 100 => ⟨S1x1x1024, .f32⟩
  | 101 => ⟨S32x4x1024, .f32⟩
  | 102 => ⟨S32x4x1024, .f32⟩
  | 103 => ⟨S_, .f32⟩
  | 104 => ⟨S32x4x1024, .f32⟩
  | 105 => ⟨S32x4x1024, .f32⟩
  | 106 => ⟨S32x4x1024, .f32⟩
  | 107 => ⟨S_, .f32⟩
  | 108 => ⟨S32x4, .f32⟩
  | 109 => ⟨S32x4x1, .f32⟩
  | 110 => ⟨S_, .f32⟩
  | 111 => ⟨S32x4x1, .f32⟩
  | 112 => ⟨S32x4x1, .f32⟩
  | 113 => ⟨S32x4x1024, .f32⟩
  | 114 => ⟨S32x4x1024, .f32⟩
  | 115 => ⟨S32x4x1024, .f32⟩
  | 116 => ⟨S_, .f32⟩
  | 117 => ⟨S32x4, .f32⟩
  | 118 => ⟨S32x4x1, .f32⟩
  | 119 => ⟨S_, .f32⟩
  | 120 => ⟨S32x4x1, .f32⟩
  | 121 => ⟨S32x4x1, .f32⟩
  | 122 => ⟨S32x4x1024, .f32⟩
  | 123 => ⟨S32x4x1024, .f32⟩
  | 124 => ⟨S_, .f32⟩
  | 125 => ⟨S32x4x1, .f32⟩
  | 126 => ⟨S32x4x1, .f32⟩
  | 127 => ⟨S32x4x1, .f32⟩
  | _ => ⟨S32x4x1024, .f32⟩

abbrev hbmTy0_1 (i : Nat) : BufTy := match i % 128 with
  | 0 => ⟨S32x4x1024, .f32⟩
  | 1 => ⟨S32x4x1024, .f32⟩
  | 2 => ⟨S1x1x1024, .f32⟩
  | 3 => ⟨S32x4x1024, .f32⟩
  | 4 => ⟨S32x4x1024, .f32⟩
  | 5 => ⟨S1x1x1024, .f32⟩
  | 6 => ⟨S32x4x1024, .f32⟩
  | 7 => ⟨S32x4x1024, .f32⟩
  | 8 => ⟨S32x2x5376, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_10 : Ref sig .tc := ⟨.hbm, 107, rfl⟩
abbrev main_v81 : Ref sig .tc := ⟨.hbm, 108, rfl⟩
abbrev main_v82 : Ref sig .tc := ⟨.hbm, 109, rfl⟩
abbrev main_cst_11 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_14 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== Proof.FfnForms.lean ====
module

public import Idealize.ShloMosaic.Lib.Pointwise
public import Idealize.ShloMosaic.Lib.Claim

@[expose] public section

noncomputable section

/-! The scalar formulas of the feed-forward part of the layer: the normalisation of one row, the gate, and one column of the three-tap filter. -/

namespace Cert.Ffn

open Idealize.ShloMosaic

/-- The mean of a row of 1024 numbers. -/
def mean (h : Fin 1024 → EReal) : EReal := Ideal.div (∑ x, h x) (Ideal.ofBits FTy.f32 1149239296#32)

/-- Entry `d` of the normalised row. -/
def lnrow (h w b : Fin 1024 → EReal) (d : Fin 1024) : EReal :=
  (h d - mean h) * Ideal.rsqrt (Ideal.div (∑ x, (h x - mean h) * (h x - mean h)) (Ideal.ofBits FTy.f32 1149239296#32) + Ideal.ofBits FTy.f32 925353388#32) * w d + b d

/-- The smooth gate in its form with the hyperbolic tangent. -/
def gate (g : EReal) : EReal :=
  g * (Ideal.ofBits FTy.f32 1056964608#32 * (1 + Ideal.tanh (Ideal.ofBits FTy.f32 1061962282#32 * (g + Ideal.ofBits FTy.f32 1027024659#32 * (g * g * g)))))

/-- Three taps and a bias. -/
def taps (b p2 c0 p1 c1 u c2 : EReal) : EReal := b + p2 * c0 + p1 * c1 + u * c2

/-- The residual's scale, of a residual and an update. -/
def resid (x f : EReal) : EReal := Ideal.ofBits FTy.f32 0x3F9837F0#32 * x + f

/-- What the feed-forward part is given: the residual `x`, the two mixing results, and the weights and biases. -/
structure Args where
  x : Fin 4 → Fin 4096 → Fin 1024 → EReal
  mm : Fin 4 → Fin 4096 → Fin 512 → EReal
  mn : Fin 4 → Fin 4096 → Fin 512 → EReal
  wo : Fin 1024 → Fin 1024 → EReal
  aw : Fin 1024 → EReal
  ab : Fin 1024 → EReal
  wu : Fin 1024 → Fin 5376 → EReal
  bu : Fin 5376 → EReal
  cw : Fin 3 → Fin 5376 → EReal
  cb : Fin 5376 → EReal
  wd : Fin 2688 → Fin 1024 → EReal
  bd : Fin 1024 → EReal
  zw : Fin 1024 → EReal
  zb : Fin 1024 → EReal

namespace Args

variable (a : Args)

/-- The row before the first normalisation. -/
def gpre (b : Fin 4) (s : Fin 4096) (d : Fin 1024) : EReal :=
  resid (a.x b s d) ((∑ k : Fin 512, a.mm b s k * a.wo ⟨k.val, by omega⟩ d) + ∑ k : Fin 512, a.mn b s k * a.wo ⟨512 + k.val, by omega⟩ d)

/-- The first normalised row. -/
def gx (b : Fin 4) (s : Fin 4096) (d : Fin 1024) : EReal := lnrow (a.gpre b s) a.aw a.ab d

/-- The up-projection. -/
def gup (b : Fin 4) (s : Fin 4096) (j : Fin 5376) : EReal := (∑ k : Fin 1024, a.gx b s k * a.wu k j) + a.bu j

/-- The up-projection two rows back, zero before the sequence's start. -/
def gback2 (b : Fin 4) (s : Fin 4096) (j : Fin 5376) : EReal := if h : s.val < 2 then 0 else a.gup b ⟨s.val - 2, by omega⟩ j

/-- The up-projection one row back. -/
def gback1 (b : Fin 4) (s : Fin 4096) (j : Fin 5376) : EReal := if h : s.val < 1 then 0 else a.gup b ⟨s.val - 1, by omega⟩ j

/-- The filter along the sequence. -/
def gconv (b : Fin 4) (s : Fin 4096) (j : Fin 5376) : EReal :=
  taps (a.cb j) (a.gback2 b s j) (a.cw 0 j) (a.gback1 b s j) (a.cw 1 j) (a.gup b s j) (a.cw 2 j)

/-- The gated product. -/
def ggated (b : Fin 4) (s : Fin 4096) (e : Fin 2688) : EReal := gate (a.gconv b s ⟨e.val, by omega⟩) * a.gconv b s ⟨2688 + e.val, by omega⟩

/-- The row before the second normalisation. -/
def gfin (b : Fin 4) (s : Fin 4096) (d : Fin 1024) : EReal :=
  resid (a.gx b s d) ((∑ e : Fin 2688, a.ggated b s e * a.wd e d) + a.bd d)

/-- The layer's output row. -/
def gy (b : Fin 4) (s : Fin 4096) (d : Fin 1024) : EReal := lnrow (a.gfin b s) a.zw a.zb d

end Args

end Cert.Ffn
-- ==== Proof.FfnBlock.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.FfnForms

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! What one grid point of the feed-forward call computes, as functions of the blocks it reads. -/

/-- The first normalisation's row `r`, before it: scaled input plus the two halves of the mixing product. -/
def pre (x0 : Vec Ideal S1x512x1024 .f32) (x1 x2 : Vec Ideal S1x512x512 .f32) (x3 x4 : Vec Ideal S512x1024 .bf16) (r : Fin 512) (d : Fin 1024) : EReal :=
  resid (x0 (ix3 0 r d)) ((∑ k : Fin 512, x1 (ix3 0 r k) * x3 (ix2 k d)) + ∑ k : Fin 512, x2 (ix3 0 r k) * x4 (ix2 k d))

/-- The first normalised row. -/
def xone (x0 : Vec Ideal S1x512x1024 .f32) (x1 x2 : Vec Ideal S1x512x512 .f32) (x3 x4 : Vec Ideal S512x1024 .bf16) (x5 x6 : Vec Ideal S1x1024 .f32)
    (r : Fin 512) (d : Fin 1024) : EReal :=
  lnrow (pre x0 x1 x2 x3 x4 r) (fun d => x5 (ix2 0 d)) (fun d => x6 (ix2 0 d)) d

/-- The up-projection of a row. -/
def up (X : Fin 512 → Fin 1024 → EReal) (x7 : Vec Ideal S1024x5376 .bf16) (x8 : Vec Ideal S1x5376 .f32) (r : Fin 512) (j : Fin 5376) : EReal :=
  (∑ k : Fin 1024, X r k * x7 (ix2 k j)) + x8 (ix2 0 j)

/-- The row two before row `r`: within the tile, or one of the last rows carried from the tile before. -/
def back2 (cr : Vec Ideal S8x5376 .f32) (U : Fin 512 → Fin 5376 → EReal) (r : Fin 512) (j : Fin 5376) : EReal :=
  if h : r.val < 2 then cr (ix2 ⟨6 + r.val, by omega⟩ j) else U ⟨r.val - 2, by omega⟩ j

/-- The row before row `r`. -/
def back1 (cr : Vec Ideal S8x5376 .f32) (U : Fin 512 → Fin 5376 → EReal) (r : Fin 512) (j : Fin 5376) : EReal :=
  if h : r.val < 1 then cr (ix2 ⟨7 + r.val, by omega⟩ j) else U ⟨r.val - 1, by omega⟩ j

/-- The filtered row. -/
def conv (cr : Vec Ideal S8x5376 .f32) (U : Fin 512 → Fin 5376 → EReal) (x9 : Vec Ideal S3x5376 .f32) (x10 : Vec Ideal S1x5376 .f32)
    (r : Fin 512) (j : Fin 5376) : EReal :=
  taps (x10 (ix2 0 j)) (back2 cr U r j) (x9 (ix2 0 j)) (back1 cr U r j) (x9 (ix2 1 j)) (U r j) (x9 (ix2 2 j))

/-- The gated product, 2688 wide. -/
def gated (C : Fin 512 → Fin 5376 → EReal) (r : Fin 512) (e : Fin 2688) : EReal :=
  gate (C r ⟨e.val, by omega⟩) * C r ⟨2688 + e.val, by omega⟩

/-- Columns `o` to `o + 895` of a table of 512 rows. -/
def cols (f : Fin 512 → Fin 5376 → EReal) (o : ℕ) (h : o + 896 ≤ 5376) : FVec Ideal S512x896 .f32 :=
  fun j => f (j 0) ⟨o + (j 1).val, by have := (j 1).isLt; exact lt_of_lt_of_le (Nat.add_lt_add_left this o) h⟩

def gcols (f : Fin 512 → Fin 2688 → EReal) (o : ℕ) (h : o + 896 ≤ 2688) : FVec Ideal S512x896 .f32 :=
  fun j => f (j 0) ⟨o + (j 1).val, by have := (j 1).isLt; exact lt_of_lt_of_le (Nat.add_lt_add_left this o) h⟩

/-- One third of the down-projection. -/
def part (g : Fin 512 → Fin 2688 → EReal) (x11 : Vec Ideal S2688x1024 .bf16) (o : ℕ) (h : o + 896 ≤ 2688) (r : Fin 512) (d : Fin 1024) : EReal :=
  ∑ k : Fin 896, g r ⟨o + k.val, by omega⟩ * x11 (ix2 ⟨o + k.val, by omega⟩ d)

theorem bnd (o : ℕ) {s : Shape} {n : ℕ} (h : o + 896 ≤ n) : o + 896 ≤ n := h

/-- A table of 512 rows and 1024 columns as an array. -/
def arr (f : Fin 512 → Fin 1024 → EReal) (φ : FTy) : FVec Ideal S512x1024 φ := fun j => f (j 0) (j 1)

theorem pay5_eq (x0 x1 x2 x3 x4) : k0_pay5 (F := Ideal) x0 x1 x3 x2 x4 = arr (fun r d => pre x0 x1 x2 x3 x4 r d - mean (pre x0 x1 x2 x3 x4 r)) .f32 := by
  funext j
  idx_vars j
  pointwise [k0_pay5, arr, pre, mean, resid]

theorem pay7_eq (x0 x1 x2 x3 x4 x5 x6) :
    k0_pay7 (F := Ideal) (k0_pay3 x5) (k0_pay4 x6) (k0_pay5 x0 x1 x3 x2 x4) (k0_pay6 x0 x1 x3 x2 x4) = arr (xone x0 x1 x2 x3 x4 x5 x6) .f32 := by
  funext j
  idx_vars j
  pointwise [k0_pay7, k0_pay3, k0_pay4, k0_pay6, arr, xone, lnrow]
  simp only [pay5_eq]
  rfl

theorem pay8_eq (x0 x1 x2 x3 x4 x5 x6) :
    k0_pay8 (F := Ideal) (k0_pay3 x5) (k0_pay4 x6) (k0_pay5 x0 x1 x3 x2 x4) (k0_pay6 x0 x1 x3 x2 x4) = arr (xone x0 x1 x2 x3 x4 x5 x6) .bf16 :=
  pay7_eq x0 x1 x2 x3 x4 x5 x6

theorem up_in {o : ℕ} (h : ∀ a, (![0, o] : Fin 2 → ℕ) a + (![1024, 896] : Fin 2 → ℕ) a ≤ S1024x5376.size a) : o + 896 ≤ 5376 := h 1

theorem pay17_eq (X : Fin 512 → Fin 1024 → EReal) (x7 : Vec Ideal S1024x5376 .bf16) (x8 : Vec Ideal S1x5376 .f32) (o : ℕ) (inb inb') :
    k0_pay17 (F := Ideal) (arr X .bf16) (View.ld x7 (Rect.unit ![0, o] ![1024, 896] inb)) (View.ld x8 (Rect.unit ![0, o] ![1, 896] inb'))
      = cols (up X x7 x8) o (up_in inb) := by
  funext j
  idx_vars j
  pointwise [k0_pay17, arr, cols, up]
  blk_ext

theorem pay24_u (X w b) : k0_pay24 (F := Ideal) X w b = k0_pay17 X w b := rfl
theorem pay31_u (X w b) : k0_pay31 (F := Ideal) X w b = k0_pay17 X w b := rfl
theorem pay39_u (X w b) : k0_pay39 (F := Ideal) X w b = k0_pay17 X w b := rfl
theorem pay45_u (X w b) : k0_pay45 (F := Ideal) X w b = k0_pay17 X w b := rfl
theorem pay10_u (a b c d w v) : k0_pay10 (F := Ideal) a b c d w v = k0_pay17 (k0_pay8 a b c d) w v := rfl
theorem pay12_u (a b c d w v) : k0_pay12 (F := Ideal) a b c d w v = k0_pay17 (k0_pay8 a b c d) w v := by
  rw [← pay10_u]; exact shapeCast_self _ _
theorem pay19_u (X w b) : k0_pay19 (F := Ideal) X w b = k0_pay17 X w b := shapeCast_self _ _
theorem pay26_u (X w b) : k0_pay26 (F := Ideal) X w b = k0_pay17 X w b := shapeCast_self _ _
theorem pay33_u (X w b) : k0_pay33 (F := Ideal) X w b = k0_pay17 X w b := shapeCast_self _ _
theorem pay41_u (X w b) : k0_pay41 (F := Ideal) X w b = k0_pay17 X w b := shapeCast_self _ _
theorem pay47_u (X w b) : k0_pay47 (F := Ideal) X w b = k0_pay17 X w b := shapeCast_self _ _
theorem pay11_c (x) : k0_pay11 (F := Ideal) x = x := shapeCast_self _ _
theorem pay18_c (x) : k0_pay18 (F := Ideal) x = x := shapeCast_self _ _
theorem pay25_c (x) : k0_pay25 (F := Ideal) x = x := shapeCast_self _ _
theorem pay32_c (x) : k0_pay32 (F := Ideal) x = x := shapeCast_self _ _
theorem pay40_c (x) : k0_pay40 (F := Ideal) x = x := shapeCast_self _ _
theorem pay46_c (x) : k0_pay46 (F := Ideal) x = x := shapeCast_self _ _

end Cert.KernelIdeal.Ffn
-- ==== Proof.FfnReads.lean ====
module

public import proofs.«01_k».proof.Proof.FfnBlock
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! The blocks a grid point reads, in terms of the arguments. -/

theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0]
    ∧ win0_15.index t = ![t.val / 8, t.val % 8, 0] ∧ win0_16.index t = ![t.val / 8, t.val % 8, 0, 0] :=
  (by decide +kernel : ∀ t : Fin grid0.N, _)

abbrev arr0 (c : Dev nD) : FVec Ideal S4x4096x1024 .f32 := m ((c : Thread nD τ).loc main_arg0)
abbrev arr1 (c : Dev nD) : FVec Ideal S4x4096x512 .f32 := m ((c : Thread nD τ).loc main_arg1)
abbrev arr2 (c : Dev nD) : FVec Ideal S4x4096x512 .f32 := m ((c : Thread nD τ).loc main_arg2)
abbrev arr3 (c : Dev nD) : FVec Ideal S1024x1024 .f32 := m ((c : Thread nD τ).loc main_arg3)
abbrev arr4 (c : Dev nD) : FVec Ideal S1024 .f32 := m ((c : Thread nD τ).loc main_arg4)
abbrev arr5 (c : Dev nD) : FVec Ideal S1024 .f32 := m ((c : Thread nD τ).loc main_arg5)
abbrev arr6 (c : Dev nD) : FVec Ideal S1024x5376 .f32 := m ((c : Thread nD τ).loc main_arg6)
abbrev arr7 (c : Dev nD) : FVec Ideal S5376 .f32 := m ((c : Thread nD τ).loc main_arg7)
abbrev arr8 (c : Dev nD) : FVec Ideal S3x5376 .f32 := m ((c : Thread nD τ).loc main_arg8)
abbrev arr9 (c : Dev nD) : FVec Ideal S5376 .f32 := m ((c : Thread nD τ).loc main_arg9)
abbrev arr10 (c : Dev nD) : FVec Ideal S2688x1024 .f32 := m ((c : Thread nD τ).loc main_arg10)
abbrev arr11 (c : Dev nD) : FVec Ideal S1024 .f32 := m ((c : Thread nD τ).loc main_arg11)
abbrev arr12 (c : Dev nD) : FVec Ideal S1024 .f32 := m ((c : Thread nD τ).loc main_arg12)
abbrev arr13 (c : Dev nD) : FVec Ideal S1024 .f32 := m ((c : Thread nD τ).loc main_arg13)

/-- The arguments, entry by entry. -/
def args (c : Dev nD) : Args where
  x p q r := arr0 m c (ix3 p q r)
  mm p q r := arr1 m c (ix3 p q r)
  mn p q r := arr2 m c (ix3 p q r)
  wo p q := arr3 m c (ix2 p q)
  aw p := arr4 m c (ix1 p)
  ab p := arr5 m c (ix1 p)
  wu p q := arr6 m c (ix2 p q)
  bu p := arr7 m c (ix1 p)
  cw p q := arr8 m c (ix2 p q)
  cb p := arr9 m c (ix1 p)
  wd p q := arr10 m c (ix2 p q)
  bd p := arr11 m c (ix1 p)
  zw p := arr12 m c (ix1 p)
  zb p := arr13 m c (ix1 p)

theorem lt32 (t : Fin cfg0.N) : t.val < 32 := lt_of_lt_of_eq t.isLt (by decide)

/-- The sequence a grid point works on, and the row of it that its tile's row `r` is. -/
def bt (t : Fin cfg0.N) : Fin 4 := ⟨t.val / 8, by have := lt32 t; omega⟩
def st (t : Fin cfg0.N) (r : Fin 512) : Fin 4096 := ⟨t.val % 8 * 512 + r.val, by omega⟩

set_option maxHeartbeats 1000000 in
theorem V_v1 (c : Dev nD) : V m c main_v1 = truncf .bf16 (extractStridedSlice S512x1024 ![0, 0] (arr3 m c) slices_S1024x1024_S512x1024_0_0 : FVec Ideal S512x1024 .f32) bitsLt_bf16_f32 := by
  unfold V
  after_results <;> rfl
set_option maxHeartbeats 1000000 in
theorem V_v3 (c : Dev nD) : V m c main_v3 = truncf .bf16 (extractStridedSlice S512x1024 ![512, 0] (arr3 m c) slices_S1024x1024_S512x1024_512_0 : FVec Ideal S512x1024 .f32) bitsLt_bf16_f32 := by
  unfold V
  after_results <;> rfl
set_option maxHeartbeats 1000000 in
theorem V_v4 (c : Dev nD) : V m c main_v4 = shapeCast S1x1024 (arr4 m c) shapeCasts_S1024_S1x1024 := by
  unfold V
  after_results <;> rfl
set_option maxHeartbeats 1000000 in
theorem V_v5 (c : Dev nD) : V m c main_v5 = shapeCast S1x1024 (arr5 m c) shapeCasts_S1024_S1x1024 := by
  unfold V
  after_results <;> rfl
set_option maxHeartbeats 1000000 in
theorem V_v6 (c : Dev nD) : V m c main_v6 = truncf .bf16 (arr6 m c) bitsLt_bf16_f32 := by
  unfold V
  after_results <;> rfl
set_option maxHeartbeats 1000000 in
theorem V_v7 (c : Dev nD) : V m c main_v7 = shapeCast S1x5376 (arr7 m c) shapeCasts_S5376_S1x5376 := by
  unfold V
  after_results <;> rfl
set_option maxHeartbeats 1000000 in
theorem V_v8 (c : Dev nD) : V m c main_v8 = shapeCast S1x5376 (arr9 m c) shapeCasts_S5376_S1x5376 := by
  unfold V
  after_results <;> rfl
set_option maxHeartbeats 1000000 in
theorem V_v9 (c : Dev nD) : V m c main_v9 = truncf .bf16 (arr10 m c) bitsLt_bf16_f32 := by
  unfold V
  after_results <;> rfl
set_option maxHeartbeats 1000000 in
theorem V_v10 (c : Dev nD) : V m c main_v10 = shapeCast S1x1024 (arr11 m c) shapeCasts_S1024_S1x1024 := by
  unfold V
  after_results <;> rfl
set_option maxHeartbeats 1000000 in
theorem V_v11 (c : Dev nD) : V m c main_v11 = shapeCast S1x1024 (arr12 m c) shapeCasts_S1024_S1x1024 := by
  unfold V
  after_results <;> rfl
set_option maxHeartbeats 1000000 in
theorem V_v12 (c : Dev nD) : V m c main_v12 = shapeCast S1x1024 (arr13 m c) shapeCasts_S1024_S1x1024 := by
  unfold V
  after_results <;> rfl
set_option maxHeartbeats 1000000 in
theorem V_a0 (c : Dev nD) : V m c main_arg0 = arr0 m c := by
  unfold V
  after_results <;> rfl
set_option maxHeartbeats 1000000 in
theorem V_a1 (c : Dev nD) : V m c main_arg1 = arr1 m c := by
  unfold V
  after_results <;> rfl
set_option maxHeartbeats 1000000 in
theorem V_a2 (c : Dev nD) : V m c main_arg2 = arr2 m c := by
  unfold V
  after_results <;> rfl
set_option maxHeartbeats 1000000 in
theorem V_a8 (c : Dev nD) : V m c main_arg8 = arr8 m c := by
  unfold V
  after_results <;> rfl
theorem blk0 (c : Dev nD) (t : Fin cfg0.N) (r : Fin 512) (d : Fin 1024) : (iblk m c 0 t : Vec Ideal S1x512x1024 .f32) (ix3 0 r d) = (args m c).x (bt t) (st t r) d := by
  have e : (iblk m c 0 t : Vec Ideal S1x512x1024 .f32) (ix3 0 r d) = V m c main_arg0 (ix3 (bt t) (st t r) d) := by blk_point [iblk, idx t, bt, st]
  rw [e, V_a0]
  rfl
theorem blk1 (c : Dev nD) (t : Fin cfg0.N) (r : Fin 512) (d : Fin 512) : (iblk m c 1 t : Vec Ideal S1x512x512 .f32) (ix3 0 r d) = (args m c).mm (bt t) (st t r) d := by
  have e : (iblk m c 1 t : Vec Ideal S1x512x512 .f32) (ix3 0 r d) = V m c main_arg1 (ix3 (bt t) (st t r) d) := by blk_point [iblk, idx t, bt, st]
  rw [e, V_a1]
  rfl
theorem blk2 (c : Dev nD) (t : Fin cfg0.N) (r : Fin 512) (d : Fin 512) : (iblk m c 2 t : Vec Ideal S1x512x512 .f32) (ix3 0 r d) = (args m c).mn (bt t) (st t r) d := by
  have e : (iblk m c 2 t : Vec Ideal S1x512x512 .f32) (ix3 0 r d) = V m c main_arg2 (ix3 (bt t) (st t r) d) := by blk_point [iblk, idx t, bt, st]
  rw [e, V_a2]
  rfl
theorem blk3 (c : Dev nD) (t : Fin cfg0.N) (k : Fin 512) (d : Fin 1024) : (iblk m c 3 t : Vec Ideal S512x1024 .bf16) (ix2 k d) = (args m c).wo ⟨k.val, by omega⟩ d := by
  have e : (iblk m c 3 t : Vec Ideal S512x1024 .bf16) (ix2 k d) = V m c main_v1 (ix2 k d) := by blk_point [iblk, idx t, bt, st]
  rw [e, V_v1]
  pointwise [args]
theorem blk4 (c : Dev nD) (t : Fin cfg0.N) (k : Fin 512) (d : Fin 1024) : (iblk m c 4 t : Vec Ideal S512x1024 .bf16) (ix2 k d) = (args m c).wo ⟨512 + k.val, by omega⟩ d := by
  have e : (iblk m c 4 t : Vec Ideal S512x1024 .bf16) (ix2 k d) = V m c main_v3 (ix2 k d) := by blk_point [iblk, idx t, bt, st]
  rw [e, V_v3]
  pointwise [args]
theorem blk5 (c : Dev nD) (t : Fin cfg0.N) (d : Fin 1024) : (iblk m c 5 t : Vec Ideal S1x1024 .f32) (ix2 0 d) = (args m c).aw d := by
  have e : (iblk m c 5 t : Vec Ideal S1x1024 .f32) (ix2 0 d) = V m c main_v4 (ix2 0 d) := by blk_point [iblk, idx t, bt, st]
  rw [e, V_v4]
  pointwise [args]
theorem blk6 (c : Dev nD) (t : Fin cfg0.N) (d : Fin 1024) : (iblk m c 6 t : Vec Ideal S1x1024 .f32) (ix2 0 d) = (args m c).ab d := by
  have e : (iblk m c 6 t : Vec Ideal S1x1024 .f32) (ix2 0 d) = V m c main_v5 (ix2 0 d) := by blk_point [iblk, idx t, bt, st]
  rw [e, V_v5]
  pointwise [args]
theorem blk7 (c : Dev nD) (t : Fin cfg0.N) (k : Fin 1024) (d : Fin 5376) : (iblk m c 7 t : Vec Ideal S1024x5376 .bf16) (ix2 k d) = (args m c).wu k d := by
  have e : (iblk m c 7 t : Vec Ideal S1024x5376 .bf16) (ix2 k d) = V m c main_v6 (ix2 k d) := by blk_point [iblk, idx t, bt, st]
  rw [e, V_v6]
  pointwise [args]
theorem blk8 (c : Dev nD) (t : Fin cfg0.N) (d : Fin 5376) : (iblk m c 8 t : Vec Ideal S1x5376 .f32) (ix2 0 d) = (args m c).bu d := by
  have e : (iblk m c 8 t : Vec Ideal S1x5376 .f32) (ix2 0 d) = V m c main_v7 (ix2 0 d) := by blk_point [iblk, idx t, bt, st]
  rw [e, V_v7]
  pointwise [args]
theorem blk9 (c : Dev nD) (t : Fin cfg0.N) (k : Fin 3) (d : Fin 5376) : (iblk m c 9 t : Vec Ideal S3x5376 .f32) (ix2 k d) = (args m c).cw k d := by
  have e : (iblk m c 9 t : Vec Ideal S3x5376 .f32) (ix2 k d) = V m c main_arg8 (ix2 k d) := by blk_point [iblk, idx t, bt, st]
  rw [e, V_a8]
  rfl
theorem blk10 (c : Dev nD) (t : Fin cfg0.N) (d : Fin 5376) : (iblk m c 10 t : Vec Ideal S1x5376 .f32) (ix2 0 d) = (args m c).cb d := by
  have e : (iblk m c 10 t : Vec Ideal S1x5376 .f32) (ix2 0 d) = V m c main_v8 (ix2 0 d) := by blk_point [iblk, idx t, bt, st]
  rw [e, V_v8]
  pointwise [args]
theorem blk11 (c : Dev nD) (t : Fin cfg0.N) (k : Fin 2688) (d : Fin 1024) : (iblk m c 11 t : Vec Ideal S2688x1024 .bf16) (ix2 k d) = (args m c).wd k d := by
  have e : (iblk m c 11 t : Vec Ideal S2688x1024 .bf16) (ix2 k d) = V m c main_v9 (ix2 k d) := by blk_point [iblk, idx t, bt, st]
  rw [e, V_v9]
  pointwise [args]
theorem blk12 (c : Dev nD) (t : Fin cfg0.N) (d : Fin 1024) : (iblk m c 12 t : Vec Ideal S1x1024 .f32) (ix2 0 d) = (args m c).bd d := by
  have e : (iblk m c 12 t : Vec Ideal S1x1024 .f32) (ix2 0 d) = V m c main_v10 (ix2 0 d) := by blk_point [iblk, idx t, bt, st]
  rw [e, V_v10]
  pointwise [args]
theorem blk13 (c : Dev nD) (t : Fin cfg0.N) (d : Fin 1024) : (iblk m c 13 t : Vec Ideal S1x1024 .f32) (ix2 0 d) = (args m c).zw d := by
  have e : (iblk m c 13 t : Vec Ideal S1x1024 .f32) (ix2 0 d) = V m c main_v11 (ix2 0 d) := by blk_point [iblk, idx t, bt, st]
  rw [e, V_v11]
  pointwise [args]
theorem blk14 (c : Dev nD) (t : Fin cfg0.N) (d : Fin 1024) : (iblk m c 14 t : Vec Ideal S1x1024 .f32) (ix2 0 d) = (args m c).zb d := by
  have e : (iblk m c 14 t : Vec Ideal S1x1024 .f32) (ix2 0 d) = V m c main_v12 (ix2 0 d) := by blk_point [iblk, idx t, bt, st]
  rw [e, V_v12]
  pointwise [args]

end Cert.KernelIdeal.Ffn
-- ==== Proof.FfnParts.lean ====
module

public import proofs.«01_k».proof.Proof.FfnBlock
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! The filter's scratch, the gate and the three thirds of the down-projection, on arrays. -/

theorem cov6 (v : View sig .tc .vmem S520x896 .f32) (U : Fin 512 → Fin 5376 → EReal) (xs0 : Vec Ideal S8x5376 .f32) (o : ℕ) (h : o + 896 ≤ 5376) (i1 i2 i3 i4)
    (L : List (View.Piece (Elt Ideal) S520x896 .f32)) :
    v.readCov (⟨Rect.unit ![8, 0] ![512, 896] i1, cols U o h⟩ :: ⟨Rect.unit ![0, 0] ![8, 896] i2, View.ld xs0 (Rect.unit ![0, o] ![8, 896] i3)⟩ :: L)
      (Rect.unit ![6, 0] ![512, 896] i4).toLoadRect = cols (back2 xs0 U) o h := by
  rw [View.readCov_eq_canon']
  funext j
  have e0 : (((Rect.unit (s := S520x896) ![6, 0] ![512, 896] i4).toLoadRect.idx j) 0 : ℕ) = 6 + 1 * (j 0).val := rfl
  have b0 : (j 0).val < 512 := (j 0).isLt
  by_cases hj : (j 0).val < 2
  · rw [View.canon_cons_of_not_mem _ _ (fun hm => by
      have h0 := ((Rect.mem_set_unit (inb := i1)).mp hm 0).1
      have h1 : 8 ≤ (((Rect.unit (s := S520x896) ![6, 0] ![512, 896] i4).toLoadRect.idx j) 0 : ℕ) := h0
      omega)]
    have e : (Rect.unit (s := S520x896) ![6, 0] ![512, 896] i4).toLoadRect.idx j
        = (Rect.unit (s := S520x896) ![0, 0] ![8, 896] i2).emb (ix2 ⟨6 + (j 0).val, by show _ < 8; omega⟩ (j 1)) := by
      funext a; apply Fin.ext; fin_cases a
      · show 6 + 1 * (j 0).val = 0 + 1 * (6 + (j 0).val); omega
      · rfl
    rw [e, View.canon_cons_emb]
    simp only [cols, back2]
    rw [dif_pos (show (j 0).val < 2 from hj)]
    refine congrArg xs0 ?_
    funext a; apply Fin.ext; fin_cases a
    · show 0 + 1 * (6 + (j 0).val) = 6 + (j 0).val; omega
    · show o + 1 * (j 1).val = o + (j 1).val; omega
  · have e : (Rect.unit (s := S520x896) ![6, 0] ![512, 896] i4).toLoadRect.idx j
        = (Rect.unit (s := S520x896) ![8, 0] ![512, 896] i1).emb (ix2 ⟨(j 0).val - 2, by show _ < 512; omega⟩ (j 1)) := by
      funext a; apply Fin.ext; fin_cases a
      · show 6 + 1 * (j 0).val = 8 + 1 * ((j 0).val - 2); omega
      · rfl
    rw [e, View.canon_cons_emb]
    simp only [cols, back2]
    rw [dif_neg (show ¬ (j 0).val < 2 from hj)]
    rfl

theorem cov7 (v : View sig .tc .vmem S520x896 .f32) (U : Fin 512 → Fin 5376 → EReal) (xs0 : Vec Ideal S8x5376 .f32) (o : ℕ) (h : o + 896 ≤ 5376) (i1 i2 i3 i4)
    (L : List (View.Piece (Elt Ideal) S520x896 .f32)) :
    v.readCov (⟨Rect.unit ![8, 0] ![512, 896] i1, cols U o h⟩ :: ⟨Rect.unit ![0, 0] ![8, 896] i2, View.ld xs0 (Rect.unit ![0, o] ![8, 896] i3)⟩ :: L)
      (Rect.unit ![7, 0] ![512, 896] i4).toLoadRect = cols (back1 xs0 U) o h := by
  rw [View.readCov_eq_canon']
  funext j
  have e0 : (((Rect.unit (s := S520x896) ![7, 0] ![512, 896] i4).toLoadRect.idx j) 0 : ℕ) = 7 + 1 * (j 0).val := rfl
  have b0 : (j 0).val < 512 := (j 0).isLt
  by_cases hj : (j 0).val < 1
  · rw [View.canon_cons_of_not_mem _ _ (fun hm => by
      have h0 := ((Rect.mem_set_unit (inb := i1)).mp hm 0).1
      have h1 : 8 ≤ (((Rect.unit (s := S520x896) ![7, 0] ![512, 896] i4).toLoadRect.idx j) 0 : ℕ) := h0
      omega)]
    have e : (Rect.unit (s := S520x896) ![7, 0] ![512, 896] i4).toLoadRect.idx j
        = (Rect.unit (s := S520x896) ![0, 0] ![8, 896] i2).emb (ix2 ⟨7 + (j 0).val, by show _ < 8; omega⟩ (j 1)) := by
      funext a; apply Fin.ext; fin_cases a
      · show 7 + 1 * (j 0).val = 0 + 1 * (7 + (j 0).val); omega
      · rfl
    rw [e, View.canon_cons_emb]
    simp only [cols, back1]
    rw [dif_pos (show (j 0).val < 1 from hj)]
    refine congrArg xs0 ?_
    funext a; apply Fin.ext; fin_cases a
    · show 0 + 1 * (7 + (j 0).val) = 7 + (j 0).val; omega
    · show o + 1 * (j 1).val = o + (j 1).val; omega
  · have e : (Rect.unit (s := S520x896) ![7, 0] ![512, 896] i4).toLoadRect.idx j
        = (Rect.unit (s := S520x896) ![8, 0] ![512, 896] i1).emb (ix2 ⟨(j 0).val - 1, by show _ < 512; omega⟩ (j 1)) := by
      funext a; apply Fin.ext; fin_cases a
      · show 7 + 1 * (j 0).val = 8 + 1 * ((j 0).val - 1); omega
      · rfl
    rw [e, View.canon_cons_emb]
    simp only [cols, back1]
    rw [dif_neg (show ¬ (j 0).val < 1 from hj)]
    rfl

/-- Three taps and a bias, on arrays. -/
def tapsA (b : FVec Ideal S1x896 .f32) (s : FVec Ideal S512x896 .f32) (c0 : FVec Ideal S1x896 .f32) (t : FVec Ideal S512x896 .f32) (c1 : FVec Ideal S1x896 .f32)
    (u : FVec Ideal S512x896 .f32) (c2 : FVec Ideal S1x896 .f32) : FVec Ideal S512x896 .f32 :=
  fun j => taps (b (ix2 0 (j 1))) (s j) (c0 (ix2 0 (j 1))) (t j) (c1 (ix2 0 (j 1))) (u j) (c2 (ix2 0 (j 1)))

/-- The gate of one array times another. -/
def gateA (g u : FVec Ideal S512x896 .f32) : FVec Ideal S512x896 .f32 := fun j => gate (g j) * u j

theorem pay14_t (u b s c0 t c1 c2) : k0_pay14 (F := Ideal) u (k0_pay13 b s c0) t c1 c2 = tapsA b s c0 t c1 u c2 := by
  funext j; idx_vars j; pointwise [k0_pay14, k0_pay13, tapsA, taps]
theorem pay28_t (u b s c0 t c1 c2) : k0_pay28 (F := Ideal) u (k0_pay27 b s c0 t c1) c2 = tapsA b s c0 t c1 u c2 := by
  funext j; idx_vars j; pointwise [k0_pay28, k0_pay27, tapsA, taps]
theorem pay42_t (X w v b s c0 t c1 c2) : k0_pay42 (F := Ideal) X w v b s c0 t c1 c2 = tapsA b s c0 t c1 (k0_pay17 X w v) c2 := by
  rw [← pay39_u]; funext j; idx_vars j; pointwise [k0_pay42, tapsA, taps]
theorem pay22_t (g u b s c0 t c1 c2) : k0_pay22 (F := Ideal) g u b s c0 t c1 c2 = gateA g (tapsA b s c0 t c1 u c2) := by
  funext j; idx_vars j; pointwise [k0_pay22, tapsA, taps, gateA, gate]
theorem pay38_t (acc g u b s c0 t c1 c2 w) : k0_pay38 (F := Ideal) acc g u (k0_pay34 s c0) (k0_pay35 b) t c1 c2 w = k0_pay23 acc (gateA g (tapsA b s c0 t c1 u c2)) w := by
  funext j; idx_vars j; pointwise [k0_pay38, k0_pay34, k0_pay35, k0_pay23, tapsA, taps, gateA, gate]

/-- The row before the second normalisation, on arrays: the residual plus the down-projection's three thirds and its bias. -/
def lastA (X acc : FVec Ideal S512x1024 .f32) (bd : FVec Ideal S1x1024 .f32) : FVec Ideal S512x1024 .f32 := fun j => resid (X j) (acc j + bd (ix2 0 (j 1)))

theorem pay51_t (X acc g u b s c0 t c1 c2 w bd) :
    k0_pay51 (F := Ideal) X acc g u (k0_pay48 b s c0 t c1) c2 w bd = lastA X (k0_pay23 acc (gateA g (tapsA b s c0 t c1 u c2)) w) bd := by
  funext j; idx_vars j; pointwise [k0_pay51, k0_pay48, k0_pay23, tapsA, taps, gateA, gate, lastA, resid]

theorem tapsA_eq (cr : Vec Ideal S8x5376 .f32) (U : Fin 512 → Fin 5376 → EReal) (x9 : Vec Ideal S3x5376 .f32) (x10 : Vec Ideal S1x5376 .f32) (o : ℕ) (h : o + 896 ≤ 5376) (i0 i1 i2 i3) :
    tapsA (View.ld x10 (Rect.unit ![0, o] ![1, 896] i0)) (cols (back2 cr U) o h) (View.ld x9 (Rect.unit ![0, o] ![1, 896] i1)) (cols (back1 cr U) o h)
      (View.ld x9 (Rect.unit ![1, o] ![1, 896] i2)) (cols U o h) (View.ld x9 (Rect.unit ![2, o] ![1, 896] i3)) = cols (conv cr U x9 x10) o h := by
  funext j; idx_vars j
  pointwise [tapsA, cols, conv]
  blk_ext

theorem gateA_eq (C : Fin 512 → Fin 5376 → EReal) (o o' : ℕ) (h h') (ho : o' = 2688 + o) (h2 : o + 896 ≤ 2688) :
    gateA (cols C o h) (cols C o' h') = gcols (gated C) o h2 := by
  subst ho
  funext j
  simp only [gateA, cols, gcols, gated, Nat.add_assoc]

theorem gateA_0 (C : Fin 512 → Fin 5376 → EReal) (h h') : gateA (cols C 0 h) (cols C 2688 h') = gcols (gated C) 0 (by decide) := gateA_eq C 0 2688 h h' rfl _
theorem gateA_1 (C : Fin 512 → Fin 5376 → EReal) (h h') : gateA (cols C 896 h) (cols C 3584 h') = gcols (gated C) 896 (by decide) := gateA_eq C 896 3584 h h' rfl _
theorem gateA_2 (C : Fin 512 → Fin 5376 → EReal) (h h') : gateA (cols C 1792 h) (cols C 4480 h') = gcols (gated C) 1792 (by decide) := gateA_eq C 1792 4480 h h' rfl _

theorem pay23_eq (f : Fin 512 → Fin 1024 → EReal) (g : Fin 512 → Fin 2688 → EReal) (x11 : Vec Ideal S2688x1024 .bf16) (o : ℕ) (h : o + 896 ≤ 2688) (i0) :
    k0_pay23 (F := Ideal) (arr f .f32) (gcols g o h) (View.ld x11 (Rect.unit ![o, 0] ![896, 1024] i0)) = arr (fun r d => f r d + part g x11 o h r d) .f32 := by
  funext j; idx_vars j
  pointwise [k0_pay23, arr, gcols, part]
  blk_ext

theorem pay9_eq : k0_pay9 (F := Ideal) = arr (fun _ _ => 0) .f32 := by
  funext j; idx_vars j
  pointwise [k0_pay9, arr]

theorem pay1_eq (f : Fin 512 → Fin 1024 → EReal) (w b) :
    k0_pay1 (F := Ideal) (arr f .f32) w b = fun i : S1x512x1024.Idx => lnrow (f (i 1)) (fun d => w (ix2 0 d)) (fun d => b (ix2 0 d)) (i 2) := by
  funext j; idx_vars j
  pointwise [k0_pay1, arr, lnrow, mean]

/-- The row before the second normalisation, from the first normalised rows and the gated product. -/
def fin (X : Fin 512 → Fin 1024 → EReal) (G : Fin 512 → Fin 2688 → EReal) (x11 : Vec Ideal S2688x1024 .bf16) (x12 : Vec Ideal S1x1024 .f32) (r : Fin 512) (d : Fin 1024) : EReal :=
  resid (X r d) ((((0 + part G x11 0 (by decide) r d) + part G x11 896 (by decide) r d) + part G x11 1792 (by decide) r d) + x12 (ix2 0 d))

theorem lastA_eq (X G x11 x12) :
    lastA (arr X .f32) (arr (fun r d => ((0 + part G x11 0 (by decide) r d) + part G x11 896 (by decide) r d) + part G x11 1792 (by decide) r d) .f32) x12 = arr (fin X G x11 x12) .f32 := rfl

/-- The carried rows at a sequence's first tile. -/
def noRows : Vec Ideal S8x5376 .f32 := fun _ => 0

theorem pay2_eq : k0_pay2 (F := Ideal) = noRows := by
  funext j; idx_vars j; pointwise [k0_pay2, noRows]

theorem covZ (v : View sig .tc .vmem S8x5376 .f32) (r : Rect S8x5376) (i) :
    v.readCov [⟨Rect.unit ![0, 0] ![8, 5376] i, noRows⟩] r.toLoadRect = View.ld noRows r :=
  View.readCov_fill v i noRows [] r (by intro a; fin_cases a <;> rfl)

/-- The last eight rows of a table. -/
def lastRow (U : Fin 512 → Fin 5376 → EReal) (r : Fin 8) (j : Fin 5376) : EReal := U ⟨504 + r.val, by omega⟩ j

theorem pay15_r (U : Fin 512 → Fin 5376 → EReal) (o : ℕ) (h : o + 896 ≤ 5376) (r : Fin 8) (e : Fin 896) :
    k0_pay15 (F := Ideal) (cols U o h) (ix2 r e) = lastRow U r ⟨o + e.val, by omega⟩ := by
  pointwise [k0_pay15, cols, lastRow]
theorem pay20_r (U : Fin 512 → Fin 5376 → EReal) (o : ℕ) (h : o + 896 ≤ 5376) (r : Fin 8) (e : Fin 896) :
    k0_pay20 (F := Ideal) (cols U o h) (ix2 r e) = lastRow U r ⟨o + e.val, by omega⟩ := by
  pointwise [k0_pay20, cols, lastRow]
theorem pay29_r (U : Fin 512 → Fin 5376 → EReal) (o : ℕ) (h : o + 896 ≤ 5376) (r : Fin 8) (e : Fin 896) :
    k0_pay29 (F := Ideal) (cols U o h) (ix2 r e) = lastRow U r ⟨o + e.val, by omega⟩ := by
  pointwise [k0_pay29, cols, lastRow]
theorem pay36_r (U : Fin 512 → Fin 5376 → EReal) (o : ℕ) (h : o + 896 ≤ 5376) (r : Fin 8) (e : Fin 896) :
    k0_pay36 (F := Ideal) (cols U o h) (ix2 r e) = lastRow U r ⟨o + e.val, by omega⟩ := by
  pointwise [k0_pay36, cols, lastRow]
theorem pay49_r (U : Fin 512 → Fin 5376 → EReal) (o : ℕ) (h : o + 896 ≤ 5376) (r : Fin 8) (e : Fin 896) :
    k0_pay49 (F := Ideal) (cols U o h) (ix2 r e) = lastRow U r ⟨o + e.val, by omega⟩ := by
  pointwise [k0_pay49, cols, lastRow]
theorem pay16_r (U : Fin 512 → Fin 5376 → EReal) (o : ℕ) (h : o + 896 ≤ 5376) (a b : Fin 1) (r : Fin 8) (e : Fin 896) :
    k0_pay16 (F := Ideal) (cols U o h) (ix4 a b r e) = lastRow U r ⟨o + e.val, by omega⟩ := by
  pointwise [k0_pay16, cols, lastRow]
theorem pay21_r (U : Fin 512 → Fin 5376 → EReal) (o : ℕ) (h : o + 896 ≤ 5376) (a b : Fin 1) (r : Fin 8) (e : Fin 896) :
    k0_pay21 (F := Ideal) (cols U o h) (ix4 a b r e) = lastRow U r ⟨o + e.val, by omega⟩ := by
  pointwise [k0_pay21, cols, lastRow]
theorem pay30_r (U : Fin 512 → Fin 5376 → EReal) (o : ℕ) (h : o + 896 ≤ 5376) (a b : Fin 1) (r : Fin 8) (e : Fin 896) :
    k0_pay30 (F := Ideal) (cols U o h) (ix4 a b r e) = lastRow U r ⟨o + e.val, by omega⟩ := by
  pointwise [k0_pay30, cols, lastRow]
theorem pay37_r (U : Fin 512 → Fin 5376 → EReal) (o : ℕ) (h : o + 896 ≤ 5376) (a b : Fin 1) (r : Fin 8) (e : Fin 896) :
    k0_pay37 (F := Ideal) (cols U o h) (ix4 a b r e) = lastRow U r ⟨o + e.val, by omega⟩ := by
  pointwise [k0_pay37, cols, lastRow]
theorem pay44_r (U : Fin 512 → Fin 5376 → EReal) (o : ℕ) (h : o + 896 ≤ 5376) (a b : Fin 1) (r : Fin 8) (e : Fin 896) :
    k0_pay44 (F := Ideal) (cols U o h) (ix4 a b r e) = lastRow U r ⟨o + e.val, by omega⟩ := by
  pointwise [k0_pay44, cols, lastRow]
theorem pay50_r (U : Fin 512 → Fin 5376 → EReal) (o : ℕ) (h : o + 896 ≤ 5376) (a b : Fin 1) (r : Fin 8) (e : Fin 896) :
    k0_pay50 (F := Ideal) (cols U o h) (ix4 a b r e) = lastRow U r ⟨o + e.val, by omega⟩ := by
  pointwise [k0_pay50, cols, lastRow]
theorem pay43_u (X w b) : k0_pay43 (F := Ideal) X w b = k0_pay29 (k0_pay17 X w b) := rfl

theorem canon_cons_congr {s : Shape} {e : EltTy} (p : View.Piece (Elt Ideal) s e) (L L' : List (View.Piece (Elt Ideal) s e)) (y : s.Idx)
    (h : y ∉ p.1.set → View.canon L y = View.canon L' y) : View.canon (p :: L) y = View.canon (p :: L') y := by
  by_cases hm : y ∈ p.1.set
  · obtain ⟨x, rfl⟩ := p.1.exists_idx_of_mem hm
    obtain ⟨r, w⟩ := p
    exact (View.canon_cons_emb r w L x).trans (View.canon_cons_emb r w L' x).symm
  · rw [View.canon_cons_of_not_mem _ _ hm, View.canon_cons_of_not_mem _ _ hm]
    exact h hm

/-- Under six stores that hold the index, an older one does not count. -/
theorem canon_six {s : Shape} {e : EltTy} (a b c d f g z : View.Piece (Elt Ideal) s e) (y : s.Idx)
    (h : y ∉ a.1.set → y ∉ b.1.set → y ∉ c.1.set → y ∉ d.1.set → y ∉ f.1.set → y ∉ g.1.set → False) :
    View.canon [a, b, c, d, f, g, z] y = View.canon [a, b, c, d, f, g] y :=
  canon_cons_congr _ _ _ _ fun na => canon_cons_congr _ _ _ _ fun nb => canon_cons_congr _ _ _ _ fun nc => canon_cons_congr _ _ _ _ fun nd =>
    canon_cons_congr _ _ _ _ fun nf => canon_cons_congr _ _ _ _ fun ng => (h na nb nc nd nf ng).elim

theorem col_mem (o : ℕ) (inb) (y0 : Fin 8) (y1 : Fin 5376) (h1 : o ≤ y1.val) (h2 : y1.val < o + 896) :
    ix2 y0 y1 ∈ (Rect.unit (s := S8x5376) ![0, o] ![8, 896] inb).set := by
  refine (Rect.mem_set_unit (inb := inb)).mpr fun a => ?_
  fin_cases a
  · exact ⟨Nat.zero_le _, by show y0.val < 0 + 8; omega⟩
  · exact ⟨h1, h2⟩

theorem z2 : (![0, 0] : Fin 2 → ℕ) = fun _ => 0 := by funext a; fin_cases a <;> rfl
theorem z3 : (![0, 0, 0] : Fin 3 → ℕ) = fun _ => 0 := by funext a; fin_cases a <;> rfl

theorem ld_a (x : Vec Ideal S1x512x1024 .f32) (i) : View.ld x (Rect.unit ![0, 0, 0] ![1, 512, 1024] i) = x := View.ld_unit_zero z3 i x
theorem ld_b (x : Vec Ideal S1x512x512 .f32) (i) : View.ld x (Rect.unit ![0, 0, 0] ![1, 512, 512] i) = x := View.ld_unit_zero z3 i x
theorem ld_c (x : Vec Ideal S512x1024 .bf16) (i) : View.ld x (Rect.unit ![0, 0] ![512, 1024] i) = x := View.ld_unit_zero z2 i x
theorem ld_d (x : Vec Ideal S1x1024 .f32) (i) : View.ld x (Rect.unit ![0, 0] ![1, 1024] i) = x := View.ld_unit_zero z2 i x

end Cert.KernelIdeal.Ffn
-- ==== Proof.FfnRows.lean ====
module

public import proofs.«01_k».proof.Proof.FfnReads
public import proofs.«01_k».proof.Proof.FfnParts
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! A grid point's rows are rows of the whole layer. -/

variable (c : Dev nD) (t : Fin cfg0.N)

/-- The normalised rows and the up-projection of grid point `t`. -/
def bx : Fin 512 → Fin 1024 → EReal := xone (iblk m c 0 t) (iblk m c 1 t) (iblk m c 2 t) (iblk m c 3 t) (iblk m c 4 t) (iblk m c 5 t) (iblk m c 6 t)
def bu : Fin 512 → Fin 5376 → EReal := up (bx m c t) (iblk m c 7 t) (iblk m c 8 t)

theorem pre_at (r : Fin 512) : pre (iblk m c 0 t) (iblk m c 1 t) (iblk m c 2 t) (iblk m c 3 t) (iblk m c 4 t) r = (args m c).gpre (bt t) (st t r) := by
  funext d
  unfold pre Args.gpre
  simp only [blk0, blk1, blk2, blk3, blk4]

theorem bx_at (r : Fin 512) : bx m c t r = (args m c).gx (bt t) (st t r) := by
  funext d
  unfold bx xone Args.gx
  simp only [pre_at, blk5, blk6]

theorem bu_at (r : Fin 512) (j : Fin 5376) : bu m c t r j = (args m c).gup (bt t) (st t r) j := by
  unfold bu up Args.gup
  simp only [bx_at, blk7, blk8]

/-- What a carry of eight rows must hold for the filter of grid point `t` to be the layer's. -/
def Carried (cr : Vec Ideal S8x5376 .f32) : Prop :=
  (∀ j : Fin 5376, cr (ix2 6 j) = (args m c).gback2 (bt t) (st t 0) j) ∧ (∀ j : Fin 5376, cr (ix2 7 j) = (args m c).gback2 (bt t) (st t 1) j)
    ∧ ∀ j : Fin 5376, cr (ix2 7 j) = (args m c).gback1 (bt t) (st t 0) j

theorem carried_first (h0 : t.val % 8 = 0) : Carried m c t noRows := by
  refine ⟨fun j => ?_, fun j => ?_, fun j => ?_⟩
  · unfold Args.gback2; rw [dif_pos (show (st t 0).val < 2 by simp [st, h0])]; rfl
  · unfold Args.gback2; rw [dif_pos (show (st t 1).val < 2 by simp [st, h0])]; rfl
  · unfold Args.gback1; rw [dif_pos (show (st t 0).val < 1 by simp [st, h0])]; rfl

theorem carried_next (p : Fin cfg0.N) (hp : p.val + 1 = t.val) (h0 : ¬ t.val % 8 = 0) :
    Carried m c t (fun i : S8x5376.Idx => lastRow (bu m c p) (i 0) (i 1)) := by
  have hb : bt p = bt t := Fin.ext (by show p.val / 8 = t.val / 8; omega)
  have hs : p.val % 8 + 1 = t.val % 8 := by omega
  refine ⟨fun j => ?_, fun j => ?_, fun j => ?_⟩
  · unfold Args.gback2; rw [dif_neg (show ¬ (st t 0).val < 2 by show ¬ t.val % 8 * 512 + 0 < 2; omega)]
    show bu m c p ⟨504 + 6, _⟩ j = _
    rw [bu_at, hb]; congr 1; exact Fin.ext (by show p.val % 8 * 512 + 510 = t.val % 8 * 512 + 0 - 2; omega)
  · unfold Args.gback2; rw [dif_neg (show ¬ (st t 1).val < 2 by show ¬ t.val % 8 * 512 + 1 < 2; omega)]
    show bu m c p ⟨504 + 7, _⟩ j = _
    rw [bu_at, hb]; congr 1; exact Fin.ext (by show p.val % 8 * 512 + 511 = t.val % 8 * 512 + 1 - 2; omega)
  · unfold Args.gback1; rw [dif_neg (show ¬ (st t 0).val < 1 by show ¬ t.val % 8 * 512 + 0 < 1; omega)]
    show bu m c p ⟨504 + 7, _⟩ j = _
    rw [bu_at, hb]; congr 1; exact Fin.ext (by show p.val % 8 * 512 + 511 = t.val % 8 * 512 + 0 - 1; omega)

variable {m c t}

theorem back2_at {cr : Vec Ideal S8x5376 .f32} (hc : Carried m c t cr) (r : Fin 512) (j : Fin 5376) :
    back2 cr (bu m c t) r j = (args m c).gback2 (bt t) (st t r) j := by
  unfold back2
  by_cases h : r.val < 2
  · rw [dif_pos h]
    obtain ⟨r, hr⟩ := r
    match r, hr, h with
    | 0, _, _ => exact hc.1 j
    | 1, _, _ => exact hc.2.1 j
  · rw [dif_neg h, bu_at]
    unfold Args.gback2
    rw [dif_neg (show ¬ (st t r).val < 2 by show ¬ t.val % 8 * 512 + r.val < 2; omega)]
    congr 1
    exact Fin.ext (by show t.val % 8 * 512 + (r.val - 2) = t.val % 8 * 512 + r.val - 2; omega)

theorem back1_at {cr : Vec Ideal S8x5376 .f32} (hc : Carried m c t cr) (r : Fin 512) (j : Fin 5376) :
    back1 cr (bu m c t) r j = (args m c).gback1 (bt t) (st t r) j := by
  unfold back1
  by_cases h : r.val < 1
  · rw [dif_pos h]
    obtain ⟨r, hr⟩ := r
    match r, hr, h with
    | 0, _, _ => exact hc.2.2 j
  · rw [dif_neg h, bu_at]
    unfold Args.gback1
    rw [dif_neg (show ¬ (st t r).val < 1 by show ¬ t.val % 8 * 512 + r.val < 1; omega)]
    congr 1
    exact Fin.ext (by show t.val % 8 * 512 + (r.val - 1) = t.val % 8 * 512 + r.val - 1; omega)

theorem conv_at {cr : Vec Ideal S8x5376 .f32} (hc : Carried m c t cr) (r : Fin 512) (j : Fin 5376) :
    conv cr (bu m c t) (iblk m c 9 t) (iblk m c 10 t) r j = (args m c).gconv (bt t) (st t r) j := by
  unfold conv Args.gconv
  rw [back2_at hc, back1_at hc, bu_at, blk9, blk9, blk9, blk10]

theorem gated_at {cr : Vec Ideal S8x5376 .f32} (hc : Carried m c t cr) (r : Fin 512) (e : Fin 2688) :
    gated (conv cr (bu m c t) (iblk m c 9 t) (iblk m c 10 t)) r e = (args m c).ggated (bt t) (st t r) e := by
  unfold gated Args.ggated
  rw [conv_at hc, conv_at hc]

/-- The three thirds of the down-projection make the whole. -/
theorem thirds (f : Fin 2688 → EReal) : (0 + (∑ k : Fin 896, f ⟨0 + k.val, by omega⟩) + ∑ k : Fin 896, f ⟨896 + k.val, by omega⟩)
    + (∑ k : Fin 896, f ⟨1792 + k.val, by omega⟩) = ∑ e : Fin 2688, f e := by
  rw [Fin.sum_univ_tiles 3 896 rfl f, Fin.sum_univ_three, zero_add]
  rfl

theorem fin_at {cr : Vec Ideal S8x5376 .f32} (hc : Carried m c t cr) (r : Fin 512) :
    fin (bx m c t) (gated (conv cr (bu m c t) (iblk m c 9 t) (iblk m c 10 t))) (iblk m c 11 t) (iblk m c 12 t) r = (args m c).gfin (bt t) (st t r) := by
  funext d
  unfold fin Args.gfin
  rw [← thirds]
  unfold part
  simp only [bx_at, gated_at hc, blk11, blk12]

theorem y_at {cr : Vec Ideal S8x5376 .f32} (hc : Carried m c t cr) (r : Fin 512) (d : Fin 1024) :
    lnrow (fin (bx m c t) (gated (conv cr (bu m c t) (iblk m c 9 t) (iblk m c 10 t))) (iblk m c 11 t) (iblk m c 12 t) r)
      (fun d => (iblk m c 13 t : Vec Ideal S1x1024 .f32) (ix2 0 d)) (fun d => (iblk m c 14 t : Vec Ideal S1x1024 .f32) (ix2 0 d)) d = (args m c).gy (bt t) (st t r) d := by
  rw [fin_at hc]
  unfold Args.gy
  simp only [blk13, blk14]

end Cert.KernelIdeal.Ffn
-- ==== Proof.FfnOpenA.lean ====
module

public import proofs.«01_k».proof.Proof.FfnParts
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! What a grid point leaves, as the formulas of its blocks: a sequence's first tile. -/

set_option maxHeartbeats 1000000 in
/-- The block of the result. -/
theorem op_out0_A_15 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = fun i : S1x512x1024.Idx => lnrow (fin (xone x0 x1 x2 x3 x4 x5 x6) (gated (conv noRows (up (xone x0 x1 x2 x3 x4 x5 x6) x7 x8) x9 x10)) x11 x12 (i 1)) (fun d => x13 (ix2 0 d)) (fun d => x14 (ix2 0 d)) (i 2) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine (View.canon_unit_zero z3 _ _).trans ?_
  simp only [ld_a, ld_b, ld_c, ld_d, pay7_eq, pay8_eq, pay10_u, pay12_u, pay19_u, pay24_u, pay26_u, pay31_u, pay33_u, pay39_u, pay41_u, pay45_u, pay47_u, pay11_c, pay18_c, pay25_c, pay32_c, pay40_c, pay46_c]
  simp (discharger := first | decide | rfl) only [View.readCov_skip, pay2_eq, covZ]
  simp only [pay17_eq, cov6, cov7, pay14_t, pay28_t, pay42_t, pay22_t, pay38_t, pay51_t]
  simp only [pay17_eq, tapsA_eq, gateA_0, gateA_1, gateA_2, pay9_eq, pay23_eq]
  rw [lastA_eq, pay1_eq]

set_option maxHeartbeats 1000000 in
/-- The rows handed out. -/
theorem op_out0_A_16 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = fun i : S1x1x8x5376.Idx => lastRow (up (xone x0 x1 x2 x3 x4 x5 x6) x7 x8) (i 2) (i 3) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [ld_a, ld_b, ld_c, ld_d, pay8_eq, pay10_u, pay24_u, pay31_u, pay39_u, pay43_u, pay45_u]
  simp only [pay17_eq]
  generalize (up (xone x0 x1 x2 x3 x4 x5 x6) x7 x8) = U
  funext y
  idx_vars y
  canon_tiles x h
  all_goals
    idx_vars x
    first
    | exact (pay16_r U _ _ _ _ _ _).trans (congrArg₂ (lastRow U) (Fin.ext h2.symm) (Fin.ext (by first | exact h3.symm | exact (Nat.zero_add _).trans h3.symm)))
    | exact (pay21_r U _ _ _ _ _ _).trans (congrArg₂ (lastRow U) (Fin.ext h2.symm) (Fin.ext (by first | exact h3.symm | exact (Nat.zero_add _).trans h3.symm)))
    | exact (pay30_r U _ _ _ _ _ _).trans (congrArg₂ (lastRow U) (Fin.ext h2.symm) (Fin.ext (by first | exact h3.symm | exact (Nat.zero_add _).trans h3.symm)))
    | exact (pay37_r U _ _ _ _ _ _).trans (congrArg₂ (lastRow U) (Fin.ext h2.symm) (Fin.ext (by first | exact h3.symm | exact (Nat.zero_add _).trans h3.symm)))
    | exact (pay44_r U _ _ _ _ _ _).trans (congrArg₂ (lastRow U) (Fin.ext h2.symm) (Fin.ext (by first | exact h3.symm | exact (Nat.zero_add _).trans h3.symm)))
    | exact (pay50_r U _ _ _ _ _ _).trans (congrArg₂ (lastRow U) (Fin.ext h2.symm) (Fin.ext (by first | exact h3.symm | exact (Nat.zero_add _).trans h3.symm)))

set_option maxHeartbeats 1000000 in
/-- The rows carried to the next point. -/
theorem op_sout0_A_0 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = fun i : S8x5376.Idx => lastRow (up (xone x0 x1 x2 x3 x4 x5 x6) x7 x8) (i 0) (i 1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [ld_a, ld_b, ld_c, ld_d, pay8_eq, pay10_u, pay24_u, pay31_u, pay39_u, pay43_u, pay45_u]
  simp only [pay17_eq]
  generalize (up (xone x0 x1 x2 x3 x4 x5 x6) x7 x8) = U
  funext y
  idx_vars y
  refine (canon_six _ _ _ _ _ _ _ _ fun na nb nc nd nf ng => ?_).trans ?_
  · have hy := y1.isLt
    have h_ng : ¬ (0 ≤ y1.val ∧ y1.val < 0 + 896) := fun h => ng (col_mem 0 inb_S8x5376_S8x896_0_0 y0 y1 h.1 h.2)
    have h_nd : ¬ (896 ≤ y1.val ∧ y1.val < 896 + 896) := fun h => nd (col_mem 896 inb_S8x5376_S8x896_0_896 y0 y1 h.1 h.2)
    have h_nb : ¬ (1792 ≤ y1.val ∧ y1.val < 1792 + 896) := fun h => nb (col_mem 1792 inb_S8x5376_S8x896_0_1792 y0 y1 h.1 h.2)
    have h_nf : ¬ (2688 ≤ y1.val ∧ y1.val < 2688 + 896) := fun h => nf (col_mem 2688 inb_S8x5376_S8x896_0_2688 y0 y1 h.1 h.2)
    have h_nc : ¬ (3584 ≤ y1.val ∧ y1.val < 3584 + 896) := fun h => nc (col_mem 3584 inb_S8x5376_S8x896_0_3584 y0 y1 h.1 h.2)
    have h_na : ¬ (4480 ≤ y1.val ∧ y1.val < 4480 + 896) := fun h => na (col_mem 4480 inb_S8x5376_S8x896_0_4480 y0 y1 h.1 h.2)
    omega
  canon_tiles x h
  all_goals
    idx_vars x
    first
    | exact (pay15_r U _ _ _ _).trans (congrArg₂ (lastRow U) (Fin.ext h0.symm) (Fin.ext (by first | exact h1.symm | exact (Nat.zero_add _).trans h1.symm)))
    | exact (pay20_r U _ _ _ _).trans (congrArg₂ (lastRow U) (Fin.ext h0.symm) (Fin.ext (by first | exact h1.symm | exact (Nat.zero_add _).trans h1.symm)))
    | exact (pay29_r U _ _ _ _).trans (congrArg₂ (lastRow U) (Fin.ext h0.symm) (Fin.ext (by first | exact h1.symm | exact (Nat.zero_add _).trans h1.symm)))
    | exact (pay36_r U _ _ _ _).trans (congrArg₂ (lastRow U) (Fin.ext h0.symm) (Fin.ext (by first | exact h1.symm | exact (Nat.zero_add _).trans h1.symm)))
    | exact (pay49_r U _ _ _ _).trans (congrArg₂ (lastRow U) (Fin.ext h0.symm) (Fin.ext (by first | exact h1.symm | exact (Nat.zero_add _).trans h1.symm)))

end Cert.KernelIdeal.Ffn
-- ==== Proof.FfnOpenB.lean ====
module

public import proofs.«01_k».proof.Proof.FfnParts
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! What a grid point leaves, as the formulas of its blocks: a later tile. -/

set_option maxHeartbeats 1000000 in
/-- The block of the result. -/
theorem op_out0_B_15 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : ¬cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) (xs0 : Vec Ideal S8x5376 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 = fun i : S1x512x1024.Idx => lnrow (fin (xone x0 x1 x2 x3 x4 x5 x6) (gated (conv xs0 (up (xone x0 x1 x2 x3 x4 x5 x6) x7 x8) x9 x10)) x11 x12 (i 1)) (fun d => x13 (ix2 0 d)) (fun d => x14 (ix2 0 d)) (i 2) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine (View.canon_unit_zero z3 _ _).trans ?_
  simp only [ld_a, ld_b, ld_c, ld_d, pay7_eq, pay8_eq, pay10_u, pay12_u, pay19_u, pay24_u, pay26_u, pay31_u, pay33_u, pay39_u, pay41_u, pay45_u, pay47_u, pay11_c, pay18_c, pay25_c, pay32_c, pay40_c, pay46_c]
  simp only [pay17_eq, cov6, cov7, pay14_t, pay28_t, pay42_t, pay22_t, pay38_t, pay51_t]
  simp only [pay17_eq, tapsA_eq, gateA_0, gateA_1, gateA_2, pay9_eq, pay23_eq]
  rw [lastA_eq, pay1_eq]

set_option maxHeartbeats 1000000 in
/-- The rows handed out. -/
theorem op_out0_B_16 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : ¬cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) (xs0 : Vec Ideal S8x5376 .f32) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 = fun i : S1x1x8x5376.Idx => lastRow (up (xone x0 x1 x2 x3 x4 x5 x6) x7 x8) (i 2) (i 3) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [ld_a, ld_b, ld_c, ld_d, pay8_eq, pay10_u, pay24_u, pay31_u, pay39_u, pay43_u, pay45_u]
  simp only [pay17_eq]
  generalize (up (xone x0 x1 x2 x3 x4 x5 x6) x7 x8) = U
  funext y
  idx_vars y
  canon_tiles x h
  all_goals
    idx_vars x
    first
    | exact (pay16_r U _ _ _ _ _ _).trans (congrArg₂ (lastRow U) (Fin.ext h2.symm) (Fin.ext (by first | exact h3.symm | exact (Nat.zero_add _).trans h3.symm)))
    | exact (pay21_r U _ _ _ _ _ _).trans (congrArg₂ (lastRow U) (Fin.ext h2.symm) (Fin.ext (by first | exact h3.symm | exact (Nat.zero_add _).trans h3.symm)))
    | exact (pay30_r U _ _ _ _ _ _).trans (congrArg₂ (lastRow U) (Fin.ext h2.symm) (Fin.ext (by first | exact h3.symm | exact (Nat.zero_add _).trans h3.symm)))
    | exact (pay37_r U _ _ _ _ _ _).trans (congrArg₂ (lastRow U) (Fin.ext h2.symm) (Fin.ext (by first | exact h3.symm | exact (Nat.zero_add _).trans h3.symm)))
    | exact (pay44_r U _ _ _ _ _ _).trans (congrArg₂ (lastRow U) (Fin.ext h2.symm) (Fin.ext (by first | exact h3.symm | exact (Nat.zero_add _).trans h3.symm)))
    | exact (pay50_r U _ _ _ _ _ _).trans (congrArg₂ (lastRow U) (Fin.ext h2.symm) (Fin.ext (by first | exact h3.symm | exact (Nat.zero_add _).trans h3.symm)))

set_option maxHeartbeats 1000000 in
/-- The rows carried to the next point. -/
theorem op_sout0_B_0 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x5376 .bf16) (harg9 : arg9.IsWhole) (arg10 : Memref sig .tc .vmem S1x5376 .f32) (harg10 : arg10.IsWhole) (arg11 : Memref sig .tc .vmem S3x5376 .f32) (harg11 : arg11.IsWhole) (arg12 : Memref sig .tc .vmem S1x5376 .f32) (harg12 : arg12.IsWhole) (arg13 : Memref sig .tc .vmem S2688x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S1x1x8x5376 .f32) (harg18 : arg18.IsWhole) (arg19 : Memref sig .tc .vmem S8x5376 .f32) (harg19 : arg19.IsWhole) (arg20 : Memref sig .tc .vmem S520x896 .f32) (harg20 : arg20.IsWhole) (hc0 : ¬cond0_0 i)
    (x0 : Vec Ideal S1x512x1024 .f32) (x1 : Vec Ideal S1x512x512 .f32) (x2 : Vec Ideal S1x512x512 .f32) (x3 : Vec Ideal S512x1024 .bf16) (x4 : Vec Ideal S512x1024 .bf16) (x5 : Vec Ideal S1x1024 .f32) (x6 : Vec Ideal S1x1024 .f32) (x7 : Vec Ideal S1024x5376 .bf16) (x8 : Vec Ideal S1x5376 .f32) (x9 : Vec Ideal S3x5376 .f32) (x10 : Vec Ideal S1x5376 .f32) (x11 : Vec Ideal S2688x1024 .bf16) (x12 : Vec Ideal S1x1024 .f32) (x13 : Vec Ideal S1x1024 .f32) (x14 : Vec Ideal S1x1024 .f32) (xs0 : Vec Ideal S8x5376 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 = fun i : S8x5376.Idx => lastRow (up (xone x0 x1 x2 x3 x4 x5 x6) x7 x8) (i 0) (i 1) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [ld_a, ld_b, ld_c, ld_d, pay8_eq, pay10_u, pay24_u, pay31_u, pay39_u, pay43_u, pay45_u]
  simp only [pay17_eq]
  generalize (up (xone x0 x1 x2 x3 x4 x5 x6) x7 x8) = U
  funext y
  idx_vars y
  canon_tiles x h
  all_goals
    idx_vars x
    first
    | exact (pay15_r U _ _ _ _).trans (congrArg₂ (lastRow U) (Fin.ext h0.symm) (Fin.ext (by first | exact h1.symm | exact (Nat.zero_add _).trans h1.symm)))
    | exact (pay20_r U _ _ _ _).trans (congrArg₂ (lastRow U) (Fin.ext h0.symm) (Fin.ext (by first | exact h1.symm | exact (Nat.zero_add _).trans h1.symm)))
    | exact (pay29_r U _ _ _ _).trans (congrArg₂ (lastRow U) (Fin.ext h0.symm) (Fin.ext (by first | exact h1.symm | exact (Nat.zero_add _).trans h1.symm)))
    | exact (pay36_r U _ _ _ _).trans (congrArg₂ (lastRow U) (Fin.ext h0.symm) (Fin.ext (by first | exact h1.symm | exact (Nat.zero_add _).trans h1.symm)))
    | exact (pay49_r U _ _ _ _).trans (congrArg₂ (lastRow U) (Fin.ext h0.symm) (Fin.ext (by first | exact h1.symm | exact (Nat.zero_add _).trans h1.symm)))

end Cert.KernelIdeal.Ffn
-- ==== Proof.FfnFinal.lean ====
module

public import proofs.«01_k».proof.Proof.FfnRows
public import proofs.«01_k».proof.Proof.FfnOpenA
public import proofs.«01_k».proof.Proof.FfnOpenB
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! The two results of the feed-forward call, entry by entry. -/

variable (c : Dev nD)

/-- The rows a grid point leaves for the next one. -/
theorem carry_eq (t : Fin cfg0.N) : (outsAt0 m c t.val t.isLt).2.2 = fun i : S8x5376.Idx => lastRow (bu m c t) (i 0) (i 1) := by
  by_cases h0 : t.val % 8 = 0
  · rw [outsAt0_A m c t h0, op_sout0_A_0]; rfl
  · rw [outsAt0_B m c t h0, op_sout0_B_0]; rfl

theorem carried_before (t : Fin cfg0.N) (h0 : ¬ t.val % 8 = 0) :
    Carried m c t (outsAt0 m c (t.val - 1) (Nat.lt_of_le_of_lt (Nat.sub_le _ _) t.isLt)).2.2 := by
  rw [carry_eq m c ⟨t.val - 1, Nat.lt_of_le_of_lt (Nat.sub_le _ _) t.isLt⟩]
  exact carried_next m c t ⟨t.val - 1, _⟩ (by show t.val - 1 + 1 = t.val; omega) h0

theorem point15 (t : Fin cfg0.N) (y : S1x512x1024.Idx) : (outsAt0 m c t.val t.isLt).1 y = (args m c).gy (bt t) (st t (y 1)) (y 2) := by
  by_cases h0 : t.val % 8 = 0
  · rw [outsAt0_A m c t h0, op_out0_A_15]
    exact y_at (carried_first m c t h0) (y 1) (y 2)
  · rw [outsAt0_B m c t h0, op_out0_B_15]
    exact y_at (carried_before m c t h0) (y 1) (y 2)

theorem point16 (t : Fin cfg0.N) (y : S1x1x8x5376.Idx) :
    (outsAt0 m c t.val t.isLt).2.1 y = (args m c).gup (bt t) (st t ⟨504 + (y 2).val, by have : (y 2).val < 8 := (y 2).isLt; omega⟩) (y 3) := by
  by_cases h0 : t.val % 8 = 0
  · rw [outsAt0_A m c t h0, op_out0_A_16]
    exact bu_at m c t _ _
  · rw [outsAt0_B m c t h0, op_out0_B_16]
    exact bu_at m c t _ _

theorem cov15 : (cfg0.win 15).Covers := by decide +kernel

theorem final15 : (dats m 0 c).arrAt 15 (cfgs 0).N = fun i : S4x4096x1024.Idx => (args m c).gy (i 0) (i 1) (i 2) := by
  refine (dats m 0 c).arrAt_eq_of_covers 15 _ cov15 fun t _ y => ?_
  rw [after0_15]
  refine (point15 m c t y).trans ?_
  generalize (args m c).gy = g
  refine congr (congr (congrArg g (Fin.ext ?_)) (Fin.ext ?_)) (Fin.ext ?_)
  · blk_simp [idx t]
    rfl
  · blk_simp [idx t]
    rfl
  · blk_simp [idx t]

theorem cov16 : (cfg0.win 16).Covers := by decide +kernel

/-- Row `q` of the eight last rows of tile `k`. -/
def tailRow (k q : Fin 8) : Fin 4096 := ⟨k.val * 512 + (504 + q.val), by omega⟩

theorem final16 : (dats m 0 c).arrAt 16 (cfgs 0).N = fun i : S4x8x8x5376.Idx => (args m c).gup (i 0) (tailRow (i 1) (i 2)) (i 3) := by
  refine (dats m 0 c).arrAt_eq_of_covers 16 _ cov16 fun t _ y => ?_
  rw [after0_16]
  refine (point16 m c t y).trans ?_
  generalize (args m c).gup = g
  refine congr (congr (congrArg g (Fin.ext ?_)) (Fin.ext ?_)) (Fin.ext ?_)
  · blk_simp [idx t]
    rfl
  · simp only [tailRow, st]
    blk_simp [idx t]
  · blk_simp [idx t]

end Cert.KernelIdeal.Ffn
-- ==== Proof.FfnRef.lean ====
module

public import proofs.«01_k».proof.Proof.Gen.ReferenceIdeal.Run
public import proofs.«01_k».proof.Proof.FfnForms
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Ffn

open Cert.ReferenceIdeal Cert.ReferenceIdeal.Gen Idealize.ShloMosaic Idealize.ShloMosaic.TcCoe Idealize.SL.Sem

open Cert.Ffn Cert.ReferenceIdeal.Value

variable (V0 : Valuation τ sig (Elt Ideal))

abbrev arr0 : FVec Ideal S4x4096x1024 .f32 := V0 (Proc.devRef .tc main_arg0)
abbrev arr1 : FVec Ideal S4x4096x512 .f32 := V0 (Proc.devRef .tc main_arg1)
abbrev arr2 : FVec Ideal S4x4096x512 .f32 := V0 (Proc.devRef .tc main_arg2)
abbrev arr3 : FVec Ideal S1024x1024 .f32 := V0 (Proc.devRef .tc main_arg3)
abbrev arr4 : FVec Ideal S1024 .f32 := V0 (Proc.devRef .tc main_arg4)
abbrev arr5 : FVec Ideal S1024 .f32 := V0 (Proc.devRef .tc main_arg5)
abbrev arr6 : FVec Ideal S1024x5376 .f32 := V0 (Proc.devRef .tc main_arg6)
abbrev arr7 : FVec Ideal S5376 .f32 := V0 (Proc.devRef .tc main_arg7)
abbrev arr8 : FVec Ideal S3x5376 .f32 := V0 (Proc.devRef .tc main_arg8)
abbrev arr9 : FVec Ideal S5376 .f32 := V0 (Proc.devRef .tc main_arg9)
abbrev arr10 : FVec Ideal S2688x1024 .f32 := V0 (Proc.devRef .tc main_arg10)
abbrev arr11 : FVec Ideal S1024 .f32 := V0 (Proc.devRef .tc main_arg11)
abbrev arr12 : FVec Ideal S1024 .f32 := V0 (Proc.devRef .tc main_arg12)
abbrev arr13 : FVec Ideal S1024 .f32 := V0 (Proc.devRef .tc main_arg13)

/-- The arguments, entry by entry. -/
def args : Args where
  x p q r := arr0 V0 (ix3 p q r)
  mm p q r := arr1 V0 (ix3 p q r)
  mn p q r := arr2 V0 (ix3 p q r)
  wo p q := arr3 V0 (ix2 p q)
  aw p := arr4 V0 (ix1 p)
  ab p := arr5 V0 (ix1 p)
  wu p q := arr6 V0 (ix2 p q)
  bu p := arr7 V0 (ix1 p)
  cw p q := arr8 V0 (ix2 p q)
  cb p := arr9 V0 (ix1 p)
  wd p q := arr10 V0 (ix2 p q)
  bd p := arr11 V0 (ix1 p)
  zw p := arr12 V0 (ix1 p)
  zb p := arr13 V0 (ix1 p)

theorem args_x (p q r) : (args V0).x p q r = arr0 V0 (ix3 p q r) := rfl
theorem args_mm (p q r) : (args V0).mm p q r = arr1 V0 (ix3 p q r) := rfl
theorem args_mn (p q r) : (args V0).mn p q r = arr2 V0 (ix3 p q r) := rfl
theorem args_wo (p q) : (args V0).wo p q = arr3 V0 (ix2 p q) := rfl
theorem args_aw (p) : (args V0).aw p = arr4 V0 (ix1 p) := rfl
theorem args_ab (p) : (args V0).ab p = arr5 V0 (ix1 p) := rfl
theorem args_wu (p q) : (args V0).wu p q = arr6 V0 (ix2 p q) := rfl
theorem args_bu (p) : (args V0).bu p = arr7 V0 (ix1 p) := rfl
theorem args_cw (p q) : (args V0).cw p q = arr8 V0 (ix2 p q) := rfl
theorem args_cb (p) : (args V0).cb p = arr9 V0 (ix1 p) := rfl
theorem args_wd (p q) : (args V0).wd p q = arr10 V0 (ix2 p q) := rfl
theorem args_bd (p) : (args V0).bd p = arr11 V0 (ix1 p) := rfl
theorem args_zw (p) : (args V0).zw p = arr12 V0 (ix1 p) := rfl
theorem args_zb (p) : (args V0).zb p = arr13 V0 (ix1 p) := rfl

theorem v4_read (b : Fin 4) (s : Fin 4096) (d : Fin 1024) : (res_main_v4 V0 : FVec Ideal S4x4096x1024 .f32) (ix3 b s d) = (args V0).gpre b s d := by
  pointwise [res_main_v4, Args.gpre, resid, args_x, args_mm, args_mn, args_wo]

theorem v8_read (b : Fin 4) (s : Fin 4096) : (res_main_v8 V0 : FVec Ideal S4x4096x1 .f32) (ix3 b s 0) = mean ((args V0).gpre b s) := by
  pointwise [res_main_v8, mean, v4_read]

theorem v10_read (b : Fin 4) (s : Fin 4096) (d : Fin 1024) : (res_main_v10 V0 : FVec Ideal S4x4096x1024 .f32) (ix3 b s d) = (args V0).gpre b s d - mean ((args V0).gpre b s) := by
  pointwise [res_main_v10, v8_read, v4_read]

theorem v28_read (b : Fin 4) (s : Fin 4096) (d : Fin 1024) : (res_main_v28 V0 : FVec Ideal S4x4096x1024 .f32) (ix3 b s d) = (args V0).gx b s d := by
  pointwise [res_main_v28, v10_read, v8_read, v4_read, Args.gx, lnrow, args_aw, args_ab]

theorem v32_read (b : Fin 4) (s : Fin 4096) (j : Fin 5376) : (res_main_v32 V0 : FVec Ideal S4x4096x5376 .f32) (ix3 b s j) = (args V0).gup b s j := by
  pointwise [res_main_v32, v28_read, Args.gup, args_wu, args_bu]

theorem v34_two (b : Fin 4) (s : Fin 4096) (j : Fin 5376) : (res_main_v34 V0 : FVec Ideal S4x4098x5376 .f32) (ix3 b ⟨s.val, by omega⟩ j) = (args V0).gback2 b s j := by
  pointwise [res_main_v34, v32_read, Args.gback2]

theorem v34_one (b : Fin 4) (s : Fin 4096) (j : Fin 5376) : (res_main_v34 V0 : FVec Ideal S4x4098x5376 .f32) (ix3 b ⟨1 + s.val, by omega⟩ j) = (args V0).gback1 b s j := by
  pointwise [res_main_v34, v32_read, Args.gback1]
  by_cases h : s.val < 1
  · rw [dif_pos (show 1 + s.val < 2 by omega), dif_pos h]
  · rw [dif_neg (show ¬ 1 + s.val < 2 by omega), dif_neg h]
    congr 1
    exact Fin.ext (by show 1 + s.val - 2 = s.val - 1; omega)

theorem v34_zero (b : Fin 4) (s : Fin 4096) (j : Fin 5376) : (res_main_v34 V0 : FVec Ideal S4x4098x5376 .f32) (ix3 b ⟨2 + s.val, by omega⟩ j) = (args V0).gup b s j := by
  pointwise [res_main_v34, v32_read]

theorem v57_read (b : Fin 4) (s : Fin 4096) (j : Fin 5376) : (res_main_v57 V0 : FVec Ideal S4x4096x5376 .f32) (ix3 b s j) = (args V0).gconv b s j := by
  unfold Args.gconv
  rw [← v34_two, ← v34_one, ← v34_zero]
  pointwise [res_main_v57, taps, args_cw, args_cb]
  blk_ext

theorem v58_read (b : Fin 4) (s : Fin 4096) (e : Fin 2688) : (res_main_v58 V0 : FVec Ideal S4x4096x2688 .f32) (ix3 b s e) = (args V0).gconv b s ⟨e.val, by omega⟩ := by
  rw [← v57_read]
  pointwise [res_main_v58]
  blk_ext

theorem v80_read (b : Fin 4) (s : Fin 4096) (d : Fin 1024) : (res_main_v80 V0 : FVec Ideal S4x4096x1024 .f32) (ix3 b s d) = (args V0).gfin b s d := by
  pointwise [res_main_v80, v58_read, v57_read, v28_read, Args.gfin, resid, Args.ggated, gate, args_wd, args_bd]

theorem v84_read (b : Fin 4) (s : Fin 4096) : (res_main_v84 V0 : FVec Ideal S4x4096x1 .f32) (ix3 b s 0) = mean ((args V0).gfin b s) := by
  pointwise [res_main_v84, mean, v80_read]

theorem v86_read (b : Fin 4) (s : Fin 4096) (d : Fin 1024) : (res_main_v86 V0 : FVec Ideal S4x4096x1024 .f32) (ix3 b s d) = (args V0).gfin b s d - mean ((args V0).gfin b s) := by
  pointwise [res_main_v86, v84_read, v80_read]

/-- The reference's output as its host operations compute it. -/
def out : FVec Ideal S4x4096x1024 .f32 := addf (mulf (mulf (subf (res_main_v80 V0) (broadcastInDim S4x4096x1024 ![0, 1, 2] bcast_S4x4096x1_S4x4096x1024_0_1_2 (res_main_v84 V0))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v86 V0) (res_main_v86 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (V0 (Proc.devRef .tc main_arg12))))) (broadcastInDim S4x4096x1024 ![0, 1, 2] bcast_S1x1x1024_S4x4096x1024_0_1_2 (broadcastInDim S1x1x1024 ![2] bcast_S1024_S1x1x1024_2 (V0 (Proc.devRef .tc main_arg13))))

theorem out_read : out V0 = fun i : S4x4096x1024.Idx => (args V0).gy (i 0) (i 1) (i 2) := by
  funext i
  idx_vars i
  pointwise [out, v86_read, v84_read, v80_read, Args.gy, lnrow, args_zw, args_zb]

/-- The rows of the up-projection the reference hands out. -/
def rows : FVec Ideal S4x8x8x5376 .f32 := extractStridedSlice S4x8x8x5376 ![0, 0, 504, 0] (shapeCast _ (res_main_v32 V0) shapeCasts_S4x4096x5376_S4x8x512x5376) slices_S4x8x512x5376_S4x8x8x5376_0_0_504_0

theorem rows_read : rows V0 = fun i : S4x8x8x5376.Idx => (args V0).gup (i 0) ⟨(i 1).val * 512 + (504 + (i 2).val), by
      have h1 : (i 1).val < 8 := (i 1).isLt; have h2 : (i 2).val < 8 := (i 2).isLt; omega⟩ (i 3) := by
  funext i
  idx_vars i
  pointwise [rows, v32_read]

end Cert.ReferenceIdeal.Ffn
-- ==== Proof.FfnAlgebra.lean ====
module

public import proofs.«01_k».proof.Defs
public import proofs.«01_k».proof.Proof.FfnFinal
public import proofs.«01_k».proof.Proof.FfnRef
public import proofs.«01_k».proof.Proof.Gen.Kernel
public import proofs.«01_k».proof.Proof.Gen.KernelIdeal
public import proofs.«01_k».proof.Proof.Gen.ReferenceIdeal

@[expose] public section

set_option maxRecDepth 16384

noncomputable section

namespace Cert.KernelIdeal.Ffn

open Cert.KernelIdeal Cert.KernelIdeal.Gen Idealize.ShloMosaic Idealize.ShloMosaic.TcCoe Idealize.ShloMosaic.StableHlo Idealize.SL.Sem
open Cert.Ffn

/-- Two lists of arguments that agree entry by entry are one. -/
theorem args_eq {a b : Args} (h0 : a.x = b.x) (h1 : a.mm = b.mm) (h2 : a.mn = b.mn) (h3 : a.wo = b.wo) (h4 : a.aw = b.aw) (h5 : a.ab = b.ab) (h6 : a.wu = b.wu)
    (h7 : a.bu = b.bu) (h8 : a.cw = b.cw) (h9 : a.cb = b.cb) (h10 : a.wd = b.wd) (h11 : a.bd = b.bd) (h12 : a.zw = b.zw) (h13 : a.zb = b.zb) : a = b := by
  cases a; cases b
  congr

/-- The feed-forward call computes the reference's two results. -/
theorem algebraic : Cert.algebraic_KernelIdeal_ReferenceIdeal := by
  intro m ρ m' ρ' _ hag
  refine ⟨_, _, Cert.KernelIdeal.Value.run_blocks m ρ, (θ_run _ _ _).mono (fun _ h c => ?_) (Cert.ReferenceIdeal.Value.run m' ρ')⟩
  obtain ⟨h0, h1, k⟩ := h c
  obtain ⟨e0, e1, e2, e3, e4, e5, e6, e7, e8, e9, e10, e11, e12, e13⟩ := hag c
  have ea : Cert.ReferenceIdeal.Ffn.args (launchContents m' c) = args m c := args_eq
    (funext fun p => funext fun q => funext fun r => congrFun e0 (ix3 p q r))
    (funext fun p => funext fun q => funext fun r => congrFun e1 (ix3 p q r))
    (funext fun p => funext fun q => funext fun r => congrFun e2 (ix3 p q r))
    (funext fun p => funext fun q => congrFun e3 (ix2 p q))
    (funext fun p => congrFun e4 (ix1 p)) (funext fun p => congrFun e5 (ix1 p))
    (funext fun p => funext fun q => congrFun e6 (ix2 p q)) (funext fun p => congrFun e7 (ix1 p))
    (funext fun p => funext fun q => congrFun e8 (ix2 p q)) (funext fun p => congrFun e9 (ix1 p))
    (funext fun p => funext fun q => congrFun e10 (ix2 p q)) (funext fun p => congrFun e11 (ix1 p))
    (funext fun p => congrFun e12 (ix1 p)) (funext fun p => congrFun e13 (ix1 p))
  refine ⟨h0.trans ?_, h1.trans ?_, k⟩
  · refine (Cert.ReferenceIdeal.Ffn.out_read (launchContents m' c)).trans (Eq.trans ?_ (final15 m c).symm)
    rw [ea]
  · refine (Cert.ReferenceIdeal.Ffn.rows_read (launchContents m' c)).trans (Eq.trans ?_ (final16 m c).symm)
    rw [ea]
    rfl

end Cert.KernelIdeal.Ffn
-- ==== Proof.ProjFinal.lean ====
module

public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val / 8, 0, t.val % 8] :=
  (by decide +kernel : ∀ t : Fin grid0.N, _)

/-- A row of the flattened input times a column of the weights the call is given, plus that column's bias. -/
def G2 (A : FVec Ideal S16384x1024 .f32) (Wp : FVec Ideal S1024x3456 .bf16) (Bp : FVec Ideal S1x3456 .f32)
    (r : Fin 16384) (j : Fin 3456) : EReal :=
  (∑ k : Fin 1024, A (ix2 r k) * Wp (ix2 k j)) + Bp (ix2 0 j)

theorem cov5 : (cfg0.win 5).Covers := by decide +kernel

theorem final5 (c : Dev nD) : (dats m 0 c).arrAt 5 (cfgs 0).N
    = fun i : S16384x1024.Idx => G2 (V m c main_v14) (V m c main_v6) (V m c main_v13)
        (i 0) ⟨0 + (i 1).val, by have : (i 1).val < 1024 := (i 1).isLt; omega⟩ := by
  refine (dats m 0 c).arrAt_eq_of_covers 5 _ cov5 fun t _ y => ?_
  blk_simp
  rw [after0_5]; frame_out
  pointwise [k0_pay4, k0_pay3, k0_pay2, G2]
  blk_point [iblk, idx t]

theorem cov6 : (cfg0.win 6).Covers := by decide +kernel

theorem final6 (c : Dev nD) : (dats m 0 c).arrAt 6 (cfgs 0).N
    = fun i : S16384x512.Idx => G2 (V m c main_v14) (V m c main_v6) (V m c main_v13)
        (i 0) ⟨1024 + (i 1).val, by have : (i 1).val < 512 := (i 1).isLt; omega⟩ := by
  refine (dats m 0 c).arrAt_eq_of_covers 6 _ cov6 fun t _ y => ?_
  blk_simp
  rw [after0_6]; frame_out
  pointwise [k0_pay5, k0_pay3, k0_pay2, G2]
  blk_point [iblk, idx t]

theorem cov7 : (cfg0.win 7).Covers := by decide +kernel

theorem final7 (c : Dev nD) : (dats m 0 c).arrAt 7 (cfgs 0).N
    = fun i : S16384x512.Idx => G2 (V m c main_v14) (V m c main_v6) (V m c main_v13)
        (i 0) ⟨1536 + (i 1).val, by have : (i 1).val < 512 := (i 1).isLt; omega⟩ := by
  refine (dats m 0 c).arrAt_eq_of_covers 7 _ cov7 fun t _ y => ?_
  blk_simp
  rw [after0_7]; frame_out
  pointwise [k0_pay6, k0_pay3, k0_pay2, G2]
  blk_point [iblk, idx t]

theorem cov8 : (cfg0.win 8).Covers := by decide +kernel

theorem final8 (c : Dev nD) : (dats m 0 c).arrAt 8 (cfgs 0).N
    = fun i : S16384x512.Idx => G2 (V m c main_v14) (V m c main_v6) (V m c main_v13)
        (i 0) ⟨2048 + (i 1).val, by have : (i 1).val < 512 := (i 1).isLt; omega⟩ := by
  refine (dats m 0 c).arrAt_eq_of_covers 8 _ cov8 fun t _ y => ?_
  blk_simp
  rw [after0_8]; frame_out
  pointwise [k0_pay7, k0_pay3, k0_pay2, G2]
  blk_point [iblk, idx t]

theorem cov9 : (cfg0.win 9).Covers := by decide +kernel

theorem final9 (c : Dev nD) : (dats m 0 c).arrAt 9 (cfgs 0).N
    = fun i : S16384x512.Idx => G2 (V m c main_v14) (V m c main_v6) (V m c main_v13)
        (i 0) ⟨2560 + (i 1).val, by have : (i 1).val < 512 := (i 1).isLt; omega⟩ := by
  refine (dats m 0 c).arrAt_eq_of_covers 9 _ cov9 fun t _ y => ?_
  blk_simp
  rw [after0_9]; frame_out
  pointwise [k0_pay8, k0_pay3, k0_pay2, G2]
  blk_point [iblk, idx t]

theorem cov10 : (cfg0.win 10).Covers := by decide +kernel

theorem final10 (c : Dev nD) : (dats m 0 c).arrAt 10 (cfgs 0).N
    = fun i : S16384x256.Idx => G2 (V m c main_v14) (V m c main_v6) (V m c main_v13)
        (i 0) ⟨3072 + (i 1).val, by have : (i 1).val < 256 := (i 1).isLt; omega⟩ := by
  refine (dats m 0 c).arrAt_eq_of_covers 10 _ cov10 fun t _ y => ?_
  blk_simp
  rw [after0_10]; frame_out
  pointwise [k0_pay9, k0_pay3, k0_pay2, G2]
  blk_point [iblk, idx t]

theorem cov11 : (cfg0.win 11).Covers := by decide +kernel

theorem final11 (c : Dev nD) : (dats m 0 c).arrAt 11 (cfgs 0).N
    = fun i : S16384x128.Idx => G2 (V m c main_v14) (V m c main_v6) (V m c main_v13)
        (i 0) ⟨3328 + (i 1).val, by have : (i 1).val < 128 := (i 1).isLt; omega⟩ := by
  refine (dats m 0 c).arrAt_eq_of_covers 11 _ cov11 fun t _ y => ?_
  blk_simp
  rw [after0_11]; frame_out
  pointwise [k0_pay10, k0_pay3, k0_pay2, G2]
  blk_point [iblk, idx t]

/-- A row of the transposed key/value weights times a row of the flattened input, plus that row's bias. -/
def G2t (A : FVec Ideal S16384x1024 .f32) (Wt : FVec Ideal S512x1024 .bf16) (Bt : FVec Ideal S512x1 .f32)
    (b : Fin 4) (j : Fin 512) (s : Fin 4096) : EReal :=
  (∑ k : Fin 1024, Wt (ix2 j k) * A (ix2 (⟨b.val * 4096 + s.val, by omega⟩ : Fin 16384) k)) + Bt (ix2 j 0)

theorem cov12 : (cfg0.win 12).Covers := by decide +kernel

theorem final12 (c : Dev nD) : (dats m 0 c).arrAt 12 (cfgs 0).N
    = fun i : S4x512x4096.Idx => G2t (V m c main_v14) (V m c main_v16) (V m c main_v19) (i 0) (i 1) (i 2) := by
  refine (dats m 0 c).arrAt_eq_of_covers 12 _ cov12 fun t _ y => ?_
  blk_simp
  rw [after0_12]; frame_out
  pointwise [k0_pay1, k0_pay11, k0_pay2, G2t]
  blk_simp [idx t]
  blk_point [iblk, idx t]

end Cert.Kernel2Ideal.Proj
-- ==== Proof.ProjWeights.lean ====
module

public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The five groups of weight columns, in the order the call is given them. -/
def wpParts (W : FVec Ideal S1024x3368 .f32) : List ((s : Shape) × (s.Idx → EReal)) :=
  [⟨S1024x2048, extractStridedSlice S1024x2048 ![0, 0] W slices_S1024x3368_S1024x2048_0_0⟩,
    ⟨S1024x1280, extractStridedSlice S1024x1280 ![0, 2064] W slices_S1024x3368_S1024x1280_0_2064⟩,
    ⟨S1024x16, extractStridedSlice S1024x16 ![0, 2048] W slices_S1024x3368_S1024x16_0_2048⟩,
    ⟨S1024x24, extractStridedSlice S1024x24 ![0, 3344] W slices_S1024x3368_S1024x24_0_3344⟩,
    ⟨S1024x88, broadcastInDim S1024x88 ![] bcast_S_S1024x88 (constant (F := Ideal) S_ .f32 0x00000000#32)⟩]

/-- The weights the call is given: the columns gathered group by group, zero columns behind. -/
def WP (W : FVec Ideal S1024x3368 .f32) : FVec Ideal S1024x3456 .bf16 :=
  truncf .bf16 (concatenate S1024x3456 1 (wpParts W) concatenates_S1024x2048_S1024x1280_S1024x16_S1024x24_S1024x88_S1024x3456_d1 : FVec Ideal S1024x3456 .f32) bitsLt_bf16_f32

theorem off_axis {n w v : Nat} (k : Fin n) (i : Fin w) (j : Fin v) (b : Fin 2) (hb : b ≠ 1) :
    ((ix2 k i : (⟨2, ![n, w]⟩ : Shape).Idx) b).val = ((ix2 k j : (⟨2, ![n, v]⟩ : Shape).Idx) b).val := by
  match b with
  | ⟨0, _⟩ => rfl
  | ⟨1, _⟩ => exact absurd rfl hb

theorem off_axis1 {w v : Nat} (i : Fin w) (j : Fin v) (b : Fin 1) (hb : b ≠ 0) :
    ((ix1 i : (⟨1, ![w]⟩ : Shape).Idx) b).val = ((ix1 j : (⟨1, ![v]⟩ : Shape).Idx) b).val :=
  absurd (Fin.fin_one_eq_zero b) hb

/-- The five groups of bias entries, in the same order. -/
def bpParts (B : FVec Ideal S3368 .f32) : List ((s : Shape) × (s.Idx → EReal)) :=
  [⟨S2048, extractStridedSlice S2048 ![0] B slices_S3368_S2048_0⟩,
    ⟨S1280, extractStridedSlice S1280 ![2064] B slices_S3368_S1280_2064⟩,
    ⟨S16, extractStridedSlice S16 ![2048] B slices_S3368_S16_2048⟩,
    ⟨S24, extractStridedSlice S24 ![3344] B slices_S3368_S24_3344⟩,
    ⟨S88, broadcastInDim S88 ![] bcast_S_S88 (constant (F := Ideal) S_ .f32 0x00000000#32)⟩]

/-- The bias the call is given, in the same order. -/
def BP (B : FVec Ideal S3368 .f32) : FVec Ideal S3456 .f32 :=
  concatenate S3456 0 (bpParts B) concatenates_S2048_S1280_S16_S24_S88_S3456_d0

theorem wp_0 (W : FVec Ideal S1024x3368 .f32) (k : Fin 1024) (j : Fin 3456) (h' : j.val < 2048) :
    WP W (ix2 k j) = W (ix2 k ⟨j.val, by omega⟩) := by
  have e := concatenate_apply_piece (t := S1024x3456) 1 (wpParts W) concatenates_S1024x2048_S1024x1280_S1024x16_S1024x24_S1024x88_S1024x3456_d1
    (ix2 k j) 0 (by show 0 < 5; decide) S1024x2048 _ rfl rfl 0 rfl
    (ix2 k ⟨j.val - 0, by omega⟩) (off_axis _ _ _) (by show 0 + (j.val - 0) = j.val; omega)
  refine Eq.trans e ?_
  pointwise
  blk_ext

theorem bp_0 (B : FVec Ideal S3368 .f32) (j : Fin 3456) (h' : j.val < 2048) :
    BP B (ix1 j) = B (ix1 ⟨j.val, by omega⟩) := by
  have e := concatenate_apply_piece (t := S3456) 0 (bpParts B) concatenates_S2048_S1280_S16_S24_S88_S3456_d0
    (ix1 j) 0 (by show 0 < 5; decide) S2048 _ rfl rfl 0 rfl
    (ix1 ⟨j.val - 0, by omega⟩) (off_axis1 _ _) (by show 0 + (j.val - 0) = j.val; omega)
  refine Eq.trans e ?_
  pointwise
  blk_ext

theorem wp_1 (W : FVec Ideal S1024x3368 .f32) (k : Fin 1024) (j : Fin 3456) (h : 2048 ≤ j.val) (h' : j.val < 3328) :
    WP W (ix2 k j) = W (ix2 k ⟨j.val + 16, by omega⟩) := by
  have e := concatenate_apply_piece (t := S1024x3456) 1 (wpParts W) concatenates_S1024x2048_S1024x1280_S1024x16_S1024x24_S1024x88_S1024x3456_d1
    (ix2 k j) 1 (by show 1 < 5; decide) S1024x1280 _ rfl rfl 2048 rfl
    (ix2 k ⟨j.val - 2048, by omega⟩) (off_axis _ _ _) (by show 2048 + (j.val - 2048) = j.val; omega)
  refine Eq.trans e ?_
  pointwise
  blk_ext

theorem bp_1 (B : FVec Ideal S3368 .f32) (j : Fin 3456) (h : 2048 ≤ j.val) (h' : j.val < 3328) :
    BP B (ix1 j) = B (ix1 ⟨j.val + 16, by omega⟩) := by
  have e := concatenate_apply_piece (t := S3456) 0 (bpParts B) concatenates_S2048_S1280_S16_S24_S88_S3456_d0
    (ix1 j) 1 (by show 1 < 5; decide) S1280 _ rfl rfl 2048 rfl
    (ix1 ⟨j.val - 2048, by omega⟩) (off_axis1 _ _) (by show 2048 + (j.val - 2048) = j.val; omega)
  refine Eq.trans e ?_
  pointwise
  blk_ext

theorem wp_2 (W : FVec Ideal S1024x3368 .f32) (k : Fin 1024) (j : Fin 3456) (h : 3328 ≤ j.val) (h' : j.val < 3344) :
    WP W (ix2 k j) = W (ix2 k ⟨j.val - 1280, by omega⟩) := by
  have e := concatenate_apply_piece (t := S1024x3456) 1 (wpParts W) concatenates_S1024x2048_S1024x1280_S1024x16_S1024x24_S1024x88_S1024x3456_d1
    (ix2 k j) 2 (by show 2 < 5; decide) S1024x16 _ rfl rfl 3328 rfl
    (ix2 k ⟨j.val - 3328, by omega⟩) (off_axis _ _ _) (by show 3328 + (j.val - 3328) = j.val; omega)
  refine Eq.trans e ?_
  pointwise
  blk_ext

theorem bp_2 (B : FVec Ideal S3368 .f32) (j : Fin 3456) (h : 3328 ≤ j.val) (h' : j.val < 3344) :
    BP B (ix1 j) = B (ix1 ⟨j.val - 1280, by omega⟩) := by
  have e := concatenate_apply_piece (t := S3456) 0 (bpParts B) concatenates_S2048_S1280_S16_S24_S88_S3456_d0
    (ix1 j) 2 (by show 2 < 5; decide) S16 _ rfl rfl 3328 rfl
    (ix1 ⟨j.val - 3328, by omega⟩) (off_axis1 _ _) (by show 3328 + (j.val - 3328) = j.val; omega)
  refine Eq.trans e ?_
  pointwise
  blk_ext

theorem wp_3 (W : FVec Ideal S1024x3368 .f32) (k : Fin 1024) (j : Fin 3456) (h : 3344 ≤ j.val) (h' : j.val < 3368) :
    WP W (ix2 k j) = W (ix2 k ⟨j.val, by omega⟩) := by
  have e := concatenate_apply_piece (t := S1024x3456) 1 (wpParts W) concatenates_S1024x2048_S1024x1280_S1024x16_S1024x24_S1024x88_S1024x3456_d1
    (ix2 k j) 3 (by show 3 < 5; decide) S1024x24 _ rfl rfl 3344 rfl
    (ix2 k ⟨j.val - 3344, by omega⟩) (off_axis _ _ _) (by show 3344 + (j.val - 3344) = j.val; omega)
  refine Eq.trans e ?_
  pointwise
  blk_ext

theorem bp_3 (B : FVec Ideal S3368 .f32) (j : Fin 3456) (h : 3344 ≤ j.val) (h' : j.val < 3368) :
    BP B (ix1 j) = B (ix1 ⟨j.val, by omega⟩) := by
  have e := concatenate_apply_piece (t := S3456) 0 (bpParts B) concatenates_S2048_S1280_S16_S24_S88_S3456_d0
    (ix1 j) 3 (by show 3 < 5; decide) S24 _ rfl rfl 3344 rfl
    (ix1 ⟨j.val - 3344, by omega⟩) (off_axis1 _ _) (by show 3344 + (j.val - 3344) = j.val; omega)
  refine Eq.trans e ?_
  pointwise
  blk_ext

theorem wp_4 (W : FVec Ideal S1024x3368 .f32) (k : Fin 1024) (j : Fin 3456) (h : 3368 ≤ j.val) :
    WP W (ix2 k j) = 0 := by
  have e := concatenate_apply_piece (t := S1024x3456) 1 (wpParts W) concatenates_S1024x2048_S1024x1280_S1024x16_S1024x24_S1024x88_S1024x3456_d1
    (ix2 k j) 4 (by show 4 < 5; decide) S1024x88 _ rfl rfl 3368 rfl
    (ix2 k ⟨j.val - 3368, by omega⟩) (off_axis _ _ _) (by show 3368 + (j.val - 3368) = j.val; omega)
  refine Eq.trans e ?_
  pointwise

theorem bp_4 (B : FVec Ideal S3368 .f32) (j : Fin 3456) (h : 3368 ≤ j.val) : BP B (ix1 j) = 0 := by
  have e := concatenate_apply_piece (t := S3456) 0 (bpParts B) concatenates_S2048_S1280_S16_S24_S88_S3456_d0
    (ix1 j) 4 (by show 4 < 5; decide) S88 _ rfl rfl 3368 rfl
    (ix1 ⟨j.val - 3368, by omega⟩) (off_axis1 _ _) (by show 3368 + (j.val - 3368) = j.val; omega)
  refine Eq.trans e ?_
  pointwise

set_option maxHeartbeats 2000000 in
theorem V_v6 (c : Dev nD) : V m c main_v6 = WP (m ((c : Thread nD τ).loc main_arg1)) := by
  unfold V
  after_results <;> rfl
set_option maxHeartbeats 2000000 in
theorem V_v13 (c : Dev nD) : V m c main_v13 = shapeCast S1x3456 (BP (m ((c : Thread nD τ).loc main_arg2))) shapeCasts_S3456_S1x3456 := by
  unfold V
  after_results <;> rfl
set_option maxHeartbeats 2000000 in
theorem V_v14 (c : Dev nD) : V m c main_v14 = shapeCast S16384x1024 (m ((c : Thread nD τ).loc main_arg0) : FVec Ideal S4x4096x1024 .f32) shapeCasts_S4x4096x1024_S16384x1024 := by
  unfold V
  after_results <;> rfl
set_option maxHeartbeats 2000000 in
theorem V_v16 (c : Dev nD) : V m c main_v16 = transpose S512x1024 [1, 0] (extractStridedSlice S1024x512 ![0, 2560] (WP (m ((c : Thread nD τ).loc main_arg1))) slices_S1024x3456_S1024x512_0_2560) transposes_S1024x512_S512x1024_1_0 := by
  unfold V
  after_results <;> rfl
set_option maxHeartbeats 2000000 in
theorem V_v19 (c : Dev nD) : V m c main_v19 = shapeCast S512x1 (shapeCast S512 (extractStridedSlice S1x512 ![0, 2560] (shapeCast S1x3456 (BP (m ((c : Thread nD τ).loc main_arg2))) shapeCasts_S3456_S1x3456) slices_S1x3456_S1x512_0_2560) shapeCasts_S1x512_S512) shapeCasts_S512_S512x1 := by
  unfold V
  after_results <;> rfl
end Cert.Kernel2Ideal.Proj
-- ==== Proof.ProjRef.lean ====
module

public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference2Ideal.Proj

open Cert.Reference2Ideal Cert.Reference2Ideal.Gen Idealize.ShloMosaic Idealize.ShloMosaic.TcCoe Idealize.SL.Sem

/-- One entry of the projection: token `s` of sequence `b` times column `j` of the weights, plus the bias. -/
def Z (X : FVec Ideal S4x4096x1024 .f32) (W : FVec Ideal S1024x3368 .f32) (B : FVec Ideal S3368 .f32)
    (b : Fin 4) (s : Fin 4096) (j : Fin 3368) : EReal :=
  (∑ k : Fin 1024, X (ix3 b s k) * W (ix2 k j)) + B (ix1 j)

/-- The same entry with the token given as a row of the flattened batch. -/
def Zrow (X : FVec Ideal S4x4096x1024 .f32) (W : FVec Ideal S1024x3368 .f32) (B : FVec Ideal S3368 .f32)
    (r : Fin 16384) (j : Fin 3368) : EReal :=
  Z X W B ⟨r.val / 4096, by omega⟩ ⟨r.val % 4096, by omega⟩ j

/-- The reference's projection as its host operations compute it. -/
def zz (X : FVec Ideal S4x4096x1024 .f32) (W : FVec Ideal S1024x3368 .f32) (B : FVec Ideal S3368 .f32) :
    FVec Ideal S4x4096x3368 .f32 :=
  addf (Host.dotGeneral dot_S4x4096x1024_S1024x3368_S4x4096x3368_2_0_01_1_n_n none X W)
    (broadcastInDim S4x4096x3368 ![0, 1, 2] bcast_S1x1x3368_S4x4096x3368_0_1_2 (broadcastInDim S1x1x3368 ![2] bcast_S3368_S1x1x3368_2 B))

variable (X : FVec Ideal S4x4096x1024 .f32) (W : FVec Ideal S1024x3368 .f32) (B : FVec Ideal S3368 .f32)

theorem zz_read (b : Fin 4) (s : Fin 4096) (j : Fin 3368) : zz X W B (ix3 b s j) = Z X W B b s j := by
  pointwise [zz, Z]

/-- Off the last axis, two indices over the same leading coordinates agree. -/
theorem off_axis3 {n l w v : Nat} (b : Fin n) (s : Fin l) (i : Fin w) (j : Fin v) (a : Fin 3) (ha : a ≠ 2) :
    ((ix3 b s i : (⟨3, ![n, l, w]⟩ : Shape).Idx) a).val = ((ix3 b s j : (⟨3, ![n, l, v]⟩ : Shape).Idx) a).val := by
  match a with
  | ⟨0, _⟩ => rfl
  | ⟨1, _⟩ => rfl
  | ⟨2, _⟩ => exact absurd rfl ha

theorem res20 : shapeCast S16384x1024 (extractStridedSlice S4x4096x1024 ![0, 0, 0] (zz X W B) slices_S4x4096x3368_S4x4096x1024_0_0_0) shapeCasts_S4x4096x1024_S16384x1024
    = fun i : S16384x1024.Idx => Zrow X W B (i 0) ⟨0 + (i 1).val, by have : (i 1).val < 1024 := (i 1).isLt; omega⟩ := by
  funext i
  idx_vars i
  pointwise [zz_read, Zrow]

theorem res21 : shapeCast S16384x512 (extractStridedSlice S4x4096x512 ![0, 0, 1024] (zz X W B) slices_S4x4096x3368_S4x4096x512_0_0_1024) shapeCasts_S4x4096x512_S16384x512
    = fun i : S16384x512.Idx => Zrow X W B (i 0) ⟨1024 + (i 1).val, by have : (i 1).val < 512 := (i 1).isLt; omega⟩ := by
  funext i
  idx_vars i
  pointwise [zz_read, Zrow]

theorem res22 : shapeCast S16384x512 (extractStridedSlice S4x4096x512 ![0, 0, 1536] (zz X W B) slices_S4x4096x3368_S4x4096x512_0_0_1536) shapeCasts_S4x4096x512_S16384x512
    = fun i : S16384x512.Idx => Zrow X W B (i 0) ⟨1536 + (i 1).val, by have : (i 1).val < 512 := (i 1).isLt; omega⟩ := by
  funext i
  idx_vars i
  pointwise [zz_read, Zrow]

theorem res23 : shapeCast S16384x512 (extractStridedSlice S4x4096x512 ![0, 0, 2064] (zz X W B) slices_S4x4096x3368_S4x4096x512_0_0_2064) shapeCasts_S4x4096x512_S16384x512
    = fun i : S16384x512.Idx => Zrow X W B (i 0) ⟨2064 + (i 1).val, by have : (i 1).val < 512 := (i 1).isLt; omega⟩ := by
  funext i
  idx_vars i
  pointwise [zz_read, Zrow]

/-- The four key/value groups kept in the cache. -/
def kvParts : List ((s : Shape) × (s.Idx → EReal)) :=
  [⟨S4x4096x128, extractStridedSlice S4x4096x128 ![0, 0, 2576] (zz X W B) slices_S4x4096x3368_S4x4096x128_0_0_2576⟩,
    ⟨S4x4096x128, extractStridedSlice S4x4096x128 ![0, 0, 2704] (zz X W B) slices_S4x4096x3368_S4x4096x128_0_0_2704⟩,
    ⟨S4x4096x128, extractStridedSlice S4x4096x128 ![0, 0, 2832] (zz X W B) slices_S4x4096x3368_S4x4096x128_0_0_2832⟩,
    ⟨S4x4096x128, extractStridedSlice S4x4096x128 ![0, 0, 2960] (zz X W B) slices_S4x4096x3368_S4x4096x128_0_0_2960⟩]

/-- Its concatenation along the last axis. -/
def kv : FVec Ideal S4x4096x512 .f32 := concatenate S4x4096x512 2 (kvParts X W B) concatenates_S4x4096x128_S4x4096x128_S4x4096x128_S4x4096x128_S4x4096x512_d2

theorem kv_0 (b : Fin 4) (s : Fin 4096) (j : Fin 512) (h' : j.val < 128) :
    kv X W B (ix3 b s j) = Z X W B b s ⟨2576 + (j.val - 0), by omega⟩ := by
  have e := concatenate_apply_piece (t := S4x4096x512) 2 (kvParts X W B) concatenates_S4x4096x128_S4x4096x128_S4x4096x128_S4x4096x128_S4x4096x512_d2
    (ix3 b s j) 0 (by show 0 < 4; decide) S4x4096x128 _ rfl rfl 0 rfl
    (ix3 b s ⟨j.val - 0, by omega⟩) (off_axis3 _ _ _ _) (by show 0 + (j.val - 0) = j.val; omega)
  refine Eq.trans e ?_
  pointwise [zz_read]

theorem kv_1 (b : Fin 4) (s : Fin 4096) (j : Fin 512) (h : 128 ≤ j.val) (h' : j.val < 256) :
    kv X W B (ix3 b s j) = Z X W B b s ⟨2704 + (j.val - 128), by omega⟩ := by
  have e := concatenate_apply_piece (t := S4x4096x512) 2 (kvParts X W B) concatenates_S4x4096x128_S4x4096x128_S4x4096x128_S4x4096x128_S4x4096x512_d2
    (ix3 b s j) 1 (by show 1 < 4; decide) S4x4096x128 _ rfl rfl 128 rfl
    (ix3 b s ⟨j.val - 128, by omega⟩) (off_axis3 _ _ _ _) (by show 128 + (j.val - 128) = j.val; omega)
  refine Eq.trans e ?_
  pointwise [zz_read]

theorem kv_2 (b : Fin 4) (s : Fin 4096) (j : Fin 512) (h : 256 ≤ j.val) (h' : j.val < 384) :
    kv X W B (ix3 b s j) = Z X W B b s ⟨2832 + (j.val - 256), by omega⟩ := by
  have e := concatenate_apply_piece (t := S4x4096x512) 2 (kvParts X W B) concatenates_S4x4096x128_S4x4096x128_S4x4096x128_S4x4096x128_S4x4096x512_d2
    (ix3 b s j) 2 (by show 2 < 4; decide) S4x4096x128 _ rfl rfl 256 rfl
    (ix3 b s ⟨j.val - 256, by omega⟩) (off_axis3 _ _ _ _) (by show 256 + (j.val - 256) = j.val; omega)
  refine Eq.trans e ?_
  pointwise [zz_read]

theorem kv_3 (b : Fin 4) (s : Fin 4096) (j : Fin 512) (h : 384 ≤ j.val) (h' : j.val < 512) :
    kv X W B (ix3 b s j) = Z X W B b s ⟨2960 + (j.val - 384), by omega⟩ := by
  have e := concatenate_apply_piece (t := S4x4096x512) 2 (kvParts X W B) concatenates_S4x4096x128_S4x4096x128_S4x4096x128_S4x4096x128_S4x4096x512_d2
    (ix3 b s j) 3 (by show 3 < 4; decide) S4x4096x128 _ rfl rfl 384 rfl
    (ix3 b s ⟨j.val - 384, by omega⟩) (off_axis3 _ _ _ _) (by show 384 + (j.val - 384) = j.val; omega)
  refine Eq.trans e ?_
  pointwise [zz_read]

/-- The sliding window's keys and values. -/
def winParts : List ((s : Shape) × (s.Idx → EReal)) :=
  [⟨S4x4096x128, extractStridedSlice S4x4096x128 ![0, 0, 3088] (zz X W B) slices_S4x4096x3368_S4x4096x128_0_0_3088⟩,
    ⟨S4x4096x128, extractStridedSlice S4x4096x128 ![0, 0, 3216] (zz X W B) slices_S4x4096x3368_S4x4096x128_0_0_3216⟩]

/-- Its concatenation along the last axis. -/
def win : FVec Ideal S4x4096x256 .f32 := concatenate S4x4096x256 2 (winParts X W B) concatenates_S4x4096x128_S4x4096x128_S4x4096x256_d2

theorem win_0 (b : Fin 4) (s : Fin 4096) (j : Fin 256) (h' : j.val < 128) :
    win X W B (ix3 b s j) = Z X W B b s ⟨3088 + (j.val - 0), by omega⟩ := by
  have e := concatenate_apply_piece (t := S4x4096x256) 2 (winParts X W B) concatenates_S4x4096x128_S4x4096x128_S4x4096x256_d2
    (ix3 b s j) 0 (by show 0 < 2; decide) S4x4096x128 _ rfl rfl 0 rfl
    (ix3 b s ⟨j.val - 0, by omega⟩) (off_axis3 _ _ _ _) (by show 0 + (j.val - 0) = j.val; omega)
  refine Eq.trans e ?_
  pointwise [zz_read]

theorem win_1 (b : Fin 4) (s : Fin 4096) (j : Fin 256) (h : 128 ≤ j.val) (h' : j.val < 256) :
    win X W B (ix3 b s j) = Z X W B b s ⟨3216 + (j.val - 128), by omega⟩ := by
  have e := concatenate_apply_piece (t := S4x4096x256) 2 (winParts X W B) concatenates_S4x4096x128_S4x4096x128_S4x4096x256_d2
    (ix3 b s j) 1 (by show 1 < 2; decide) S4x4096x128 _ rfl rfl 128 rfl
    (ix3 b s ⟨j.val - 128, by omega⟩) (off_axis3 _ _ _ _) (by show 128 + (j.val - 128) = j.val; omega)
  refine Eq.trans e ?_
  pointwise [zz_read]

/-- The recurrence's two gates, the attention's gates, and zero lanes behind. -/
def gatesParts : List ((s : Shape) × (s.Idx → EReal)) :=
  [⟨S4x4096x8, extractStridedSlice S4x4096x8 ![0, 0, 2048] (zz X W B) slices_S4x4096x3368_S4x4096x8_0_0_2048⟩,
    ⟨S4x4096x8, extractStridedSlice S4x4096x8 ![0, 0, 2056] (zz X W B) slices_S4x4096x3368_S4x4096x8_0_0_2056⟩,
    ⟨S4x4096x24, extractStridedSlice S4x4096x24 ![0, 0, 3344] (zz X W B) slices_S4x4096x3368_S4x4096x24_0_0_3344⟩,
    ⟨S4x4096x88, broadcastInDim S4x4096x88 ![] bcast_S_S4x4096x88 (constant (F := Ideal) S_ .f32 0x00000000#32)⟩]

/-- Its concatenation along the last axis. -/
def gates : FVec Ideal S4x4096x128 .f32 := concatenate S4x4096x128 2 (gatesParts X W B) concatenates_S4x4096x8_S4x4096x8_S4x4096x24_S4x4096x88_S4x4096x128_d2

theorem gates_0 (b : Fin 4) (s : Fin 4096) (j : Fin 128) (h' : j.val < 8) :
    gates X W B (ix3 b s j) = Z X W B b s ⟨2048 + (j.val - 0), by omega⟩ := by
  have e := concatenate_apply_piece (t := S4x4096x128) 2 (gatesParts X W B) concatenates_S4x4096x8_S4x4096x8_S4x4096x24_S4x4096x88_S4x4096x128_d2
    (ix3 b s j) 0 (by show 0 < 4; decide) S4x4096x8 _ rfl rfl 0 rfl
    (ix3 b s ⟨j.val - 0, by omega⟩) (off_axis3 _ _ _ _) (by show 0 + (j.val - 0) = j.val; omega)
  refine Eq.trans e ?_
  pointwise [zz_read]

theorem gates_1 (b : Fin 4) (s : Fin 4096) (j : Fin 128) (h : 8 ≤ j.val) (h' : j.val < 16) :
    gates X W B (ix3 b s j) = Z X W B b s ⟨2056 + (j.val - 8), by omega⟩ := by
  have e := concatenate_apply_piece (t := S4x4096x128) 2 (gatesParts X W B) concatenates_S4x4096x8_S4x4096x8_S4x4096x24_S4x4096x88_S4x4096x128_d2
    (ix3 b s j) 1 (by show 1 < 4; decide) S4x4096x8 _ rfl rfl 8 rfl
    (ix3 b s ⟨j.val - 8, by omega⟩) (off_axis3 _ _ _ _) (by show 8 + (j.val - 8) = j.val; omega)
  refine Eq.trans e ?_
  pointwise [zz_read]

theorem gates_2 (b : Fin 4) (s : Fin 4096) (j : Fin 128) (h : 16 ≤ j.val) (h' : j.val < 40) :
    gates X W B (ix3 b s j) = Z X W B b s ⟨3344 + (j.val - 16), by omega⟩ := by
  have e := concatenate_apply_piece (t := S4x4096x128) 2 (gatesParts X W B) concatenates_S4x4096x8_S4x4096x8_S4x4096x24_S4x4096x88_S4x4096x128_d2
    (ix3 b s j) 2 (by show 2 < 4; decide) S4x4096x24 _ rfl rfl 16 rfl
    (ix3 b s ⟨j.val - 16, by omega⟩) (off_axis3 _ _ _ _) (by show 16 + (j.val - 16) = j.val; omega)
  refine Eq.trans e ?_
  pointwise [zz_read]

theorem gates_3 (b : Fin 4) (s : Fin 4096) (j : Fin 128) (h : 40 ≤ j.val) (h' : j.val < 128) :
    gates X W B (ix3 b s j) = 0 := by
  have e := concatenate_apply_piece (t := S4x4096x128) 2 (gatesParts X W B) concatenates_S4x4096x8_S4x4096x8_S4x4096x24_S4x4096x88_S4x4096x128_d2
    (ix3 b s j) 3 (by show 3 < 4; decide) S4x4096x88 _ rfl rfl 40 rfl
    (ix3 b s ⟨j.val - 40, by omega⟩) (off_axis3 _ _ _ _) (by show 40 + (j.val - 40) = j.val; omega)
  refine Eq.trans e ?_
  pointwise

theorem kv_read (b : Fin 4) (s : Fin 4096) (j : Fin 512) : kv X W B (ix3 b s j) = Z X W B b s ⟨2576 + j.val, by omega⟩ := by
  by_cases h0 : j.val < 128
  · exact (kv_0 X W B b s j h0).trans (congrArg _ (Fin.ext (by show 2576 + (j.val - 0) = 2576 + j.val; omega)))
  by_cases h1 : j.val < 256
  · exact (kv_1 X W B b s j (by omega) h1).trans (congrArg _ (Fin.ext (by show 2704 + (j.val - 128) = 2576 + j.val; omega)))
  by_cases h2 : j.val < 384
  · exact (kv_2 X W B b s j (by omega) h2).trans (congrArg _ (Fin.ext (by show 2832 + (j.val - 256) = 2576 + j.val; omega)))
  · exact (kv_3 X W B b s j (by omega) j.isLt).trans (congrArg _ (Fin.ext (by show 2960 + (j.val - 384) = 2576 + j.val; omega)))

theorem win_read (b : Fin 4) (s : Fin 4096) (j : Fin 256) : win X W B (ix3 b s j) = Z X W B b s ⟨3088 + j.val, by omega⟩ := by
  by_cases h0 : j.val < 128
  · exact (win_0 X W B b s j h0).trans (congrArg _ (Fin.ext (by show 3088 + (j.val - 0) = 3088 + j.val; omega)))
  · exact (win_1 X W B b s j (by omega) j.isLt).trans (congrArg _ (Fin.ext (by show 3216 + (j.val - 128) = 3088 + j.val; omega)))

theorem res24 : shapeCast S16384x512 (kv X W B) shapeCasts_S4x4096x512_S16384x512
    = fun i : S16384x512.Idx => Zrow X W B (i 0) ⟨2576 + (i 1).val, by have : (i 1).val < 512 := (i 1).isLt; omega⟩ := by
  funext i
  idx_vars i
  pointwise [kv_read, Zrow]

theorem res26 : shapeCast S16384x256 (win X W B) shapeCasts_S4x4096x256_S16384x256
    = fun i : S16384x256.Idx => Zrow X W B (i 0) ⟨3088 + (i 1).val, by have : (i 1).val < 256 := (i 1).isLt; omega⟩ := by
  funext i
  idx_vars i
  pointwise [win_read, Zrow]

theorem res27 (r : Fin 16384) (j : Fin 128) : shapeCast S16384x128 (gates X W B) shapeCasts_S4x4096x128_S16384x128 (ix2 r j)
    = gates X W B (ix3 ⟨r.val / 4096, by omega⟩ ⟨r.val % 4096, by omega⟩ j) := by
  pointwise

theorem res28 : transpose S4x512x4096 [0, 2, 1] (kv X W B) transposes_S4x4096x512_S4x512x4096_0_2_1
    = fun i : S4x512x4096.Idx => Z X W B (i 0) (i 2) ⟨2576 + (i 1).val, by have : (i 1).val < 512 := (i 1).isLt; omega⟩ := by
  funext i
  idx_vars i
  pointwise [kv_read]

end Cert.Reference2Ideal.Proj
-- ==== Proof.ProjJoin.lean ====
module

public import proofs.«01_k».proof.Proof.ProjFinal
public import proofs.«01_k».proof.Proof.ProjWeights
public import proofs.«01_k».proof.Proof.ProjRef
public import proofs.«01_k».proof.Defs

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Reference2Ideal.Proj (Z Zrow)

variable (X : FVec Ideal S4x4096x1024 .f32) (W : FVec Ideal S1024x3368 .f32) (B : FVec Ideal S3368 .f32)

/-- The call's operands: the flattened input, and the bias as one row. -/
abbrev xArr : FVec Ideal S16384x1024 .f32 := shapeCast S16384x1024 X shapeCasts_S4x4096x1024_S16384x1024
abbrev bArr : FVec Ideal S1x3456 .f32 := shapeCast S1x3456 (BP B) shapeCasts_S3456_S1x3456

theorem g2_read (r : Fin 16384) (j : Fin 3456) : G2 (xArr X) (WP W) (bArr B) r j
    = (∑ k : Fin 1024, X (ix3 (⟨r.val / 4096, by omega⟩ : Fin 4) (⟨r.val % 4096, by omega⟩ : Fin 4096) k) * WP W (ix2 k j)) + BP B (ix1 j) := by
  pointwise [G2]

theorem g2_0 (r : Fin 16384) (j : Fin 3456) (h' : j.val < 2048) :
    G2 (xArr X) (WP W) (bArr B) r j = Zrow X W B r ⟨j.val, by omega⟩ := by
  refine (g2_read X W B r j).trans ?_
  unfold Zrow Z
  exact congrArg₂ (· + ·) (Finset.sum_congr rfl fun k _ => congrArg _ (wp_0 W k j h')) (bp_0 B j h')

theorem g2_1 (r : Fin 16384) (j : Fin 3456) (h : 2048 ≤ j.val) (h' : j.val < 3328) :
    G2 (xArr X) (WP W) (bArr B) r j = Zrow X W B r ⟨j.val + 16, by omega⟩ := by
  refine (g2_read X W B r j).trans ?_
  unfold Zrow Z
  exact congrArg₂ (· + ·) (Finset.sum_congr rfl fun k _ => congrArg _ (wp_1 W k j h h')) (bp_1 B j h h')

theorem g2_2 (r : Fin 16384) (j : Fin 3456) (h : 3328 ≤ j.val) (h' : j.val < 3344) :
    G2 (xArr X) (WP W) (bArr B) r j = Zrow X W B r ⟨j.val - 1280, by omega⟩ := by
  refine (g2_read X W B r j).trans ?_
  unfold Zrow Z
  exact congrArg₂ (· + ·) (Finset.sum_congr rfl fun k _ => congrArg _ (wp_2 W k j h h')) (bp_2 B j h h')

theorem g2_3 (r : Fin 16384) (j : Fin 3456) (h : 3344 ≤ j.val) (h' : j.val < 3368) :
    G2 (xArr X) (WP W) (bArr B) r j = Zrow X W B r ⟨j.val, by omega⟩ := by
  refine (g2_read X W B r j).trans ?_
  unfold Zrow Z
  exact congrArg₂ (· + ·) (Finset.sum_congr rfl fun k _ => congrArg _ (wp_3 W k j h h')) (bp_3 B j h h')

theorem g2_4 (r : Fin 16384) (j : Fin 3456) (h : 3368 ≤ j.val) : G2 (xArr X) (WP W) (bArr B) r j = 0 := by
  refine (g2_read X W B r j).trans ?_
  rw [bp_4 B j h, add_zero]
  exact Finset.sum_eq_zero fun k _ => by rw [wp_4 W k j h, mul_zero]

theorem out5 : (fun i : S16384x1024.Idx => G2 (xArr X) (WP W) (bArr B) (i 0) ⟨0 + (i 1).val, by have : (i 1).val < 1024 := (i 1).isLt; omega⟩)
    = fun i : S16384x1024.Idx => Zrow X W B (i 0) ⟨0 + (i 1).val, by have : (i 1).val < 1024 := (i 1).isLt; omega⟩ := by
  funext i
  have hi : (i 1).val < 1024 := (i 1).isLt
  refine (g2_0 X W B (i 0) ⟨0 + (i 1).val, by omega⟩ (by show 0 + (i 1).val < 2048; omega)).trans ?_
  exact congrArg _ (Fin.ext (by show 0 + (i 1).val = 0 + (i 1).val; omega))

theorem out6 : (fun i : S16384x512.Idx => G2 (xArr X) (WP W) (bArr B) (i 0) ⟨1024 + (i 1).val, by have : (i 1).val < 512 := (i 1).isLt; omega⟩)
    = fun i : S16384x512.Idx => Zrow X W B (i 0) ⟨1024 + (i 1).val, by have : (i 1).val < 512 := (i 1).isLt; omega⟩ := by
  funext i
  have hi : (i 1).val < 512 := (i 1).isLt
  refine (g2_0 X W B (i 0) ⟨1024 + (i 1).val, by omega⟩ (by show 1024 + (i 1).val < 2048; omega)).trans ?_
  exact congrArg _ (Fin.ext (by show 1024 + (i 1).val = 1024 + (i 1).val; omega))

theorem out7 : (fun i : S16384x512.Idx => G2 (xArr X) (WP W) (bArr B) (i 0) ⟨1536 + (i 1).val, by have : (i 1).val < 512 := (i 1).isLt; omega⟩)
    = fun i : S16384x512.Idx => Zrow X W B (i 0) ⟨1536 + (i 1).val, by have : (i 1).val < 512 := (i 1).isLt; omega⟩ := by
  funext i
  have hi : (i 1).val < 512 := (i 1).isLt
  refine (g2_0 X W B (i 0) ⟨1536 + (i 1).val, by omega⟩ (by show 1536 + (i 1).val < 2048; omega)).trans ?_
  exact congrArg _ (Fin.ext (by show 1536 + (i 1).val = 1536 + (i 1).val; omega))

theorem out8 : (fun i : S16384x512.Idx => G2 (xArr X) (WP W) (bArr B) (i 0) ⟨2048 + (i 1).val, by have : (i 1).val < 512 := (i 1).isLt; omega⟩)
    = fun i : S16384x512.Idx => Zrow X W B (i 0) ⟨2064 + (i 1).val, by have : (i 1).val < 512 := (i 1).isLt; omega⟩ := by
  funext i
  have hi : (i 1).val < 512 := (i 1).isLt
  refine (g2_1 X W B (i 0) ⟨2048 + (i 1).val, by omega⟩ (by show 2048 ≤ 2048 + (i 1).val; omega) (by show 2048 + (i 1).val < 3328; omega)).trans ?_
  exact congrArg _ (Fin.ext (by show 2048 + (i 1).val + 16 = 2064 + (i 1).val; omega))

theorem out9 : (fun i : S16384x512.Idx => G2 (xArr X) (WP W) (bArr B) (i 0) ⟨2560 + (i 1).val, by have : (i 1).val < 512 := (i 1).isLt; omega⟩)
    = fun i : S16384x512.Idx => Zrow X W B (i 0) ⟨2576 + (i 1).val, by have : (i 1).val < 512 := (i 1).isLt; omega⟩ := by
  funext i
  have hi : (i 1).val < 512 := (i 1).isLt
  refine (g2_1 X W B (i 0) ⟨2560 + (i 1).val, by omega⟩ (by show 2048 ≤ 2560 + (i 1).val; omega) (by show 2560 + (i 1).val < 3328; omega)).trans ?_
  exact congrArg _ (Fin.ext (by show 2560 + (i 1).val + 16 = 2576 + (i 1).val; omega))

theorem out10 : (fun i : S16384x256.Idx => G2 (xArr X) (WP W) (bArr B) (i 0) ⟨3072 + (i 1).val, by have : (i 1).val < 256 := (i 1).isLt; omega⟩)
    = fun i : S16384x256.Idx => Zrow X W B (i 0) ⟨3088 + (i 1).val, by have : (i 1).val < 256 := (i 1).isLt; omega⟩ := by
  funext i
  have hi : (i 1).val < 256 := (i 1).isLt
  refine (g2_1 X W B (i 0) ⟨3072 + (i 1).val, by omega⟩ (by show 2048 ≤ 3072 + (i 1).val; omega) (by show 3072 + (i 1).val < 3328; omega)).trans ?_
  exact congrArg _ (Fin.ext (by show 3072 + (i 1).val + 16 = 3088 + (i 1).val; omega))

open Cert.Reference2Ideal.Proj in
theorem out11 : (fun i : S16384x128.Idx => G2 (xArr X) (WP W) (bArr B) (i 0) ⟨3328 + (i 1).val, by have : (i 1).val < 128 := (i 1).isLt; omega⟩)
    = shapeCast S16384x128 (gates X W B) Cert.Reference2Ideal.Gen.shapeCasts_S4x4096x128_S16384x128 := by
  funext i
  have hi : (i 1).val < 128 := (i 1).isLt
  conv => rhs; rw [eq_ix2 i]
  refine Eq.trans ?_ (res27 X W B (i 0) (i 1)).symm
  by_cases h0 : (i 1).val < 8
  · refine (g2_2 X W B (i 0) ⟨3328 + (i 1).val, by omega⟩ (by show 3328 ≤ 3328 + (i 1).val; omega) (by show 3328 + (i 1).val < 3344; omega)).trans ?_
    refine Eq.trans ?_ (gates_0 X W B _ _ (i 1) h0).symm
    exact congrArg _ (Fin.ext (by show 3328 + (i 1).val - 1280 = 2048 + ((i 1).val - 0); omega))
  by_cases h1 : (i 1).val < 16
  · refine (g2_2 X W B (i 0) ⟨3328 + (i 1).val, by omega⟩ (by show 3328 ≤ 3328 + (i 1).val; omega) (by show 3328 + (i 1).val < 3344; omega)).trans ?_
    refine Eq.trans ?_ (gates_1 X W B _ _ (i 1) (by omega) h1).symm
    exact congrArg _ (Fin.ext (by show 3328 + (i 1).val - 1280 = 2056 + ((i 1).val - 8); omega))
  by_cases h2 : (i 1).val < 40
  · refine (g2_3 X W B (i 0) ⟨3328 + (i 1).val, by omega⟩ (by show 3344 ≤ 3328 + (i 1).val; omega) (by show 3328 + (i 1).val < 3368; omega)).trans ?_
    refine Eq.trans ?_ (gates_2 X W B _ _ (i 1) (by omega) h2).symm
    exact congrArg _ (Fin.ext (by show 3328 + (i 1).val = 3344 + ((i 1).val - 16); omega))
  · refine (g2_4 X W B (i 0) ⟨3328 + (i 1).val, by omega⟩ (by show 3368 ≤ 3328 + (i 1).val; omega)).trans ?_
    exact (gates_3 X W B _ _ (i 1) (by omega) hi).symm

abbrev wtArr : FVec Ideal S512x1024 .bf16 := transpose S512x1024 [1, 0] (extractStridedSlice S1024x512 ![0, 2560] (WP W) slices_S1024x3456_S1024x512_0_2560) transposes_S1024x512_S512x1024_1_0
abbrev btArr : FVec Ideal S512x1 .f32 := shapeCast S512x1 (shapeCast S512 (extractStridedSlice S1x512 ![0, 2560] (bArr B) slices_S1x3456_S1x512_0_2560) shapeCasts_S1x512_S512) shapeCasts_S512_S512x1

theorem g2t_read (b : Fin 4) (j : Fin 512) (s : Fin 4096) : G2t (xArr X) (wtArr W) (btArr B) b j s
    = (∑ k : Fin 1024, WP W (ix2 k (⟨2560 + j.val, by omega⟩ : Fin 3456)) * xArr X (ix2 (⟨b.val * 4096 + s.val, by omega⟩ : Fin 16384) k))
      + BP B (ix1 (⟨2560 + j.val, by omega⟩ : Fin 3456)) := by
  pointwise [G2t]

theorem xArr_read (b : Fin 4) (s : Fin 4096) (k : Fin 1024) :
    xArr X (ix2 (⟨b.val * 4096 + s.val, by omega⟩ : Fin 16384) k) = X (ix3 b s k) := by
  pointwise
  blk_ext

theorem out12 : (fun i : S4x512x4096.Idx => G2t (xArr X) (wtArr W) (btArr B) (i 0) (i 1) (i 2))
    = fun i : S4x512x4096.Idx => Z X W B (i 0) (i 2) ⟨2576 + (i 1).val, by have : (i 1).val < 512 := (i 1).isLt; omega⟩ := by
  funext i
  have hi : (i 1).val < 512 := (i 1).isLt
  refine (g2t_read X W B (i 0) (i 1) (i 2)).trans ?_
  unfold Z
  have hj : (⟨2560 + (i 1).val + 16, by omega⟩ : Fin 3368) = ⟨2576 + (i 1).val, by omega⟩ := Fin.ext (by show 2560 + (i 1).val + 16 = 2576 + (i 1).val; omega)
  refine congrArg₂ (· + ·) (Finset.sum_congr rfl fun k _ => ?_) ?_
  · refine (mul_comm _ _).trans (congrArg₂ (· * ·) (xArr_read X (i 0) (i 2) k) ?_)
    exact (wp_1 W k ⟨2560 + (i 1).val, by omega⟩ (by show 2048 ≤ 2560 + (i 1).val; omega) (by show 2560 + (i 1).val < 3328; omega)).trans (congrArg (fun j => W (ix2 k j)) hj)
  · exact (bp_1 B ⟨2560 + (i 1).val, by omega⟩ (by show 2048 ≤ 2560 + (i 1).val; omega) (by show 2560 + (i 1).val < 3328; omega)).trans (congrArg (fun j => B (ix1 j)) hj)

end Cert.Kernel2Ideal.Proj
-- ==== Proof.ProjAlgebra.lean ====
module

public import proofs.«01_k».proof.Proof.ProjJoin

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Reference2Ideal.Proj (Z Zrow)

variable (m : (ℓ : Loc nD τ sig) → Buf (Elt Ideal) ℓ) (c : Dev nD)

/-- The three argument arrays. -/
abbrev aX : FVec Ideal S4x4096x1024 .f32 := m ((c : Thread nD τ).loc main_arg0)
abbrev aW : FVec Ideal S1024x3368 .f32 := m ((c : Thread nD τ).loc main_arg1)
abbrev aB : FVec Ideal S3368 .f32 := m ((c : Thread nD τ).loc main_arg2)

section
open Cert.Reference2Ideal.Proj

theorem sees5 : (dats m 0 c).arrAt 5 (cfgs 0).N
    = shapeCast S16384x1024 (extractStridedSlice Cert.Reference2Ideal.S4x4096x1024 ![0, 0, 0] (zz (aX m c) (aW m c) (aB m c)) Cert.Reference2Ideal.Gen.slices_S4x4096x3368_S4x4096x1024_0_0_0) Cert.Reference2Ideal.Gen.shapeCasts_S4x4096x1024_S16384x1024 := by
  rw [final5, V_v14, V_v6, V_v13]
  exact (out5 (aX m c) (aW m c) (aB m c)).trans (res20 (aX m c) (aW m c) (aB m c)).symm

theorem sees6 : (dats m 0 c).arrAt 6 (cfgs 0).N
    = shapeCast S16384x512 (extractStridedSlice Cert.Reference2Ideal.S4x4096x512 ![0, 0, 1024] (zz (aX m c) (aW m c) (aB m c)) Cert.Reference2Ideal.Gen.slices_S4x4096x3368_S4x4096x512_0_0_1024) Cert.Reference2Ideal.Gen.shapeCasts_S4x4096x512_S16384x512 := by
  rw [final6, V_v14, V_v6, V_v13]
  exact (out6 (aX m c) (aW m c) (aB m c)).trans (res21 (aX m c) (aW m c) (aB m c)).symm

theorem sees7 : (dats m 0 c).arrAt 7 (cfgs 0).N
    = shapeCast S16384x512 (extractStridedSlice Cert.Reference2Ideal.S4x4096x512 ![0, 0, 1536] (zz (aX m c) (aW m c) (aB m c)) Cert.Reference2Ideal.Gen.slices_S4x4096x3368_S4x4096x512_0_0_1536) Cert.Reference2Ideal.Gen.shapeCasts_S4x4096x512_S16384x512 := by
  rw [final7, V_v14, V_v6, V_v13]
  exact (out7 (aX m c) (aW m c) (aB m c)).trans (res22 (aX m c) (aW m c) (aB m c)).symm

theorem sees8 : (dats m 0 c).arrAt 8 (cfgs 0).N
    = shapeCast S16384x512 (extractStridedSlice Cert.Reference2Ideal.S4x4096x512 ![0, 0, 2064] (zz (aX m c) (aW m c) (aB m c)) Cert.Reference2Ideal.Gen.slices_S4x4096x3368_S4x4096x512_0_0_2064) Cert.Reference2Ideal.Gen.shapeCasts_S4x4096x512_S16384x512 := by
  rw [final8, V_v14, V_v6, V_v13]
  exact (out8 (aX m c) (aW m c) (aB m c)).trans (res23 (aX m c) (aW m c) (aB m c)).symm

theorem sees9 : (dats m 0 c).arrAt 9 (cfgs 0).N
    = shapeCast S16384x512 (kv (aX m c) (aW m c) (aB m c)) Cert.Reference2Ideal.Gen.shapeCasts_S4x4096x512_S16384x512 := by
  rw [final9, V_v14, V_v6, V_v13]
  exact (out9 (aX m c) (aW m c) (aB m c)).trans (res24 (aX m c) (aW m c) (aB m c)).symm

theorem sees10 : (dats m 0 c).arrAt 10 (cfgs 0).N
    = shapeCast S16384x256 (win (aX m c) (aW m c) (aB m c)) Cert.Reference2Ideal.Gen.shapeCasts_S4x4096x256_S16384x256 := by
  rw [final10, V_v14, V_v6, V_v13]
  exact (out10 (aX m c) (aW m c) (aB m c)).trans (res26 (aX m c) (aW m c) (aB m c)).symm

theorem sees11 : (dats m 0 c).arrAt 11 (cfgs 0).N
    = shapeCast S16384x128 (gates (aX m c) (aW m c) (aB m c)) Cert.Reference2Ideal.Gen.shapeCasts_S4x4096x128_S16384x128 := by
  rw [final11, V_v14, V_v6, V_v13]
  exact out11 (aX m c) (aW m c) (aB m c)

theorem sees12 : (dats m 0 c).arrAt 12 (cfgs 0).N
    = transpose S4x512x4096 [0, 2, 1] (kv (aX m c) (aW m c) (aB m c)) Cert.Reference2Ideal.Gen.transposes_S4x4096x512_S4x512x4096_0_2_1 := by
  rw [final12, V_v14, V_v16, V_v19]
  exact (out12 (aX m c) (aW m c) (aB m c)).trans (res28 (aX m c) (aW m c) (aB m c)).symm

end

/-- The projection call computes the reference's projection, output by output. -/
theorem algebraic : Cert.algebraic_Kernel2Ideal_Reference2Ideal := by
  intro m ρ m' ρ' _ hag
  refine ⟨_, _, _, _, _, _, _, _, Cert.Kernel2Ideal.Value.run_blocks m ρ, (θ_run _ _ _).mono (fun _ h c => ?_) (Cert.Reference2Ideal.Value.run m' ρ')⟩
  obtain ⟨h0, h1, h2, h3, h4, h5, h6, h7, k0, k1, k2⟩ := h c
  obtain ⟨e0, e1, e2⟩ := hag c
  rw [e0, e1, e2] at h0 h1 h2 h3 h4 h5 h6 h7
  exact ⟨h0.trans (sees5 m c).symm, h1.trans (sees6 m c).symm, h2.trans (sees7 m c).symm, h3.trans (sees8 m c).symm,
    h4.trans (sees9 m c).symm, h5.trans (sees10 m c).symm, h6.trans (sees11 m c).symm, h7.trans (sees12 m c).symm, k0, k1, k2⟩

end Cert.Kernel2Ideal.Proj
-- ==== Proof.ProjSRef.lean ====
module

public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Idealize.ShloMosaic Idealize.ShloMosaic.TcCoe Idealize.SL.Sem

/-- One entry of the projection: new token `s` of sequence `b` times column `j` of the weights, plus the bias. -/
def Z (X : FVec Ideal S32x4x1024 .f32) (W : FVec Ideal S1024x3368 .f32) (B : FVec Ideal S3368 .f32)
    (b : Fin 32) (s : Fin 4) (j : Fin 3368) : EReal :=
  (∑ k : Fin 1024, X (ix3 b s k) * W (ix2 k j)) + B (ix1 j)

/-- The reference's projection as its host operations compute it. -/
def zz (X : FVec Ideal S32x4x1024 .f32) (W : FVec Ideal S1024x3368 .f32) (B : FVec Ideal S3368 .f32) :
    FVec Ideal S32x4x3368 .f32 :=
  addf (Host.dotGeneral dot_S32x4x1024_S1024x3368_S32x4x3368_2_0_01_1_n_n none X W)
    (broadcastInDim S32x4x3368 ![0, 1, 2] bcast_S1x1x3368_S32x4x3368_0_1_2 (broadcastInDim S1x1x3368 ![2] bcast_S3368_S1x1x3368_2 B))

variable (X : FVec Ideal S32x4x1024 .f32) (W : FVec Ideal S1024x3368 .f32) (B : FVec Ideal S3368 .f32)

theorem zz_read (b : Fin 32) (s : Fin 4) (j : Fin 3368) : zz X W B (ix3 b s j) = Z X W B b s j := by
  pointwise [zz, Z]

/-- Off the last axis, two indices over the same leading coordinates agree. -/
theorem off_axis3 {n l w v : Nat} (b : Fin n) (s : Fin l) (i : Fin w) (j : Fin v) (a : Fin 3) (ha : a ≠ 2) :
    ((ix3 b s i : (⟨3, ![n, l, w]⟩ : Shape).Idx) a).val = ((ix3 b s j : (⟨3, ![n, l, v]⟩ : Shape).Idx) a).val := by
  match a with
  | ⟨0, _⟩ => rfl
  | ⟨1, _⟩ => rfl
  | ⟨2, _⟩ => exact absurd rfl ha

theorem res4 : extractStridedSlice S32x4x1024 ![0, 0, 0] (zz X W B) slices_S32x4x3368_S32x4x1024_0_0_0
    = fun i : S32x4x1024.Idx => Z X W B (i 0) (i 1) ⟨0 + (i 2).val, by have : (i 2).val < 1024 := (i 2).isLt; omega⟩ := by
  funext i
  idx_vars i
  pointwise [zz_read]

theorem res5 : extractStridedSlice S32x4x512 ![0, 0, 1024] (zz X W B) slices_S32x4x3368_S32x4x512_0_0_1024
    = fun i : S32x4x512.Idx => Z X W B (i 0) (i 1) ⟨1024 + (i 2).val, by have : (i 2).val < 512 := (i 2).isLt; omega⟩ := by
  funext i
  idx_vars i
  pointwise [zz_read]

theorem res6 : extractStridedSlice S32x4x512 ![0, 0, 1536] (zz X W B) slices_S32x4x3368_S32x4x512_0_0_1536
    = fun i : S32x4x512.Idx => Z X W B (i 0) (i 1) ⟨1536 + (i 2).val, by have : (i 2).val < 512 := (i 2).isLt; omega⟩ := by
  funext i
  idx_vars i
  pointwise [zz_read]

theorem res9 : extractStridedSlice S32x4x512 ![0, 0, 2064] (zz X W B) slices_S32x4x3368_S32x4x512_0_0_2064
    = fun i : S32x4x512.Idx => Z X W B (i 0) (i 1) ⟨2064 + (i 2).val, by have : (i 2).val < 512 := (i 2).isLt; omega⟩ := by
  funext i
  idx_vars i
  pointwise [zz_read]

/-- The four key/value groups kept in the cache. -/
def kvParts : List ((s : Shape) × (s.Idx → EReal)) :=
  [⟨S32x4x128, extractStridedSlice S32x4x128 ![0, 0, 2576] (zz X W B) slices_S32x4x3368_S32x4x128_0_0_2576⟩,
    ⟨S32x4x128, extractStridedSlice S32x4x128 ![0, 0, 2704] (zz X W B) slices_S32x4x3368_S32x4x128_0_0_2704⟩,
    ⟨S32x4x128, extractStridedSlice S32x4x128 ![0, 0, 2832] (zz X W B) slices_S32x4x3368_S32x4x128_0_0_2832⟩,
    ⟨S32x4x128, extractStridedSlice S32x4x128 ![0, 0, 2960] (zz X W B) slices_S32x4x3368_S32x4x128_0_0_2960⟩]

/-- Its concatenation along the last axis. -/
def kv : FVec Ideal S32x4x512 .f32 := concatenate S32x4x512 2 (kvParts X W B) concatenates_S32x4x128_S32x4x128_S32x4x128_S32x4x128_S32x4x512_d2

theorem kv_0 (b : Fin 32) (s : Fin 4) (j : Fin 512) (h' : j.val < 128) :
    kv X W B (ix3 b s j) = Z X W B b s ⟨2576 + (j.val - 0), by omega⟩ := by
  have e := concatenate_apply_piece (t := S32x4x512) 2 (kvParts X W B) concatenates_S32x4x128_S32x4x128_S32x4x128_S32x4x128_S32x4x512_d2
    (ix3 b s j) 0 (by show 0 < 4; decide) S32x4x128 _ rfl rfl 0 rfl
    (ix3 b s ⟨j.val - 0, by omega⟩) (off_axis3 _ _ _ _) (by show 0 + (j.val - 0) = j.val; omega)
  refine Eq.trans e ?_
  pointwise [zz_read]

theorem kv_1 (b : Fin 32) (s : Fin 4) (j : Fin 512) (h : 128 ≤ j.val) (h' : j.val < 256) :
    kv X W B (ix3 b s j) = Z X W B b s ⟨2704 + (j.val - 128), by omega⟩ := by
  have e := concatenate_apply_piece (t := S32x4x512) 2 (kvParts X W B) concatenates_S32x4x128_S32x4x128_S32x4x128_S32x4x128_S32x4x512_d2
    (ix3 b s j) 1 (by show 1 < 4; decide) S32x4x128 _ rfl rfl 128 rfl
    (ix3 b s ⟨j.val - 128, by omega⟩) (off_axis3 _ _ _ _) (by show 128 + (j.val - 128) = j.val; omega)
  refine Eq.trans e ?_
  pointwise [zz_read]

theorem kv_2 (b : Fin 32) (s : Fin 4) (j : Fin 512) (h : 256 ≤ j.val) (h' : j.val < 384) :
    kv X W B (ix3 b s j) = Z X W B b s ⟨2832 + (j.val - 256), by omega⟩ := by
  have e := concatenate_apply_piece (t := S32x4x512) 2 (kvParts X W B) concatenates_S32x4x128_S32x4x128_S32x4x128_S32x4x128_S32x4x512_d2
    (ix3 b s j) 2 (by show 2 < 4; decide) S32x4x128 _ rfl rfl 256 rfl
    (ix3 b s ⟨j.val - 256, by omega⟩) (off_axis3 _ _ _ _) (by show 256 + (j.val - 256) = j.val; omega)
  refine Eq.trans e ?_
  pointwise [zz_read]

theorem kv_3 (b : Fin 32) (s : Fin 4) (j : Fin 512) (h : 384 ≤ j.val) (h' : j.val < 512) :
    kv X W B (ix3 b s j) = Z X W B b s ⟨2960 + (j.val - 384), by omega⟩ := by
  have e := concatenate_apply_piece (t := S32x4x512) 2 (kvParts X W B) concatenates_S32x4x128_S32x4x128_S32x4x128_S32x4x128_S32x4x512_d2
    (ix3 b s j) 3 (by show 3 < 4; decide) S32x4x128 _ rfl rfl 384 rfl
    (ix3 b s ⟨j.val - 384, by omega⟩) (off_axis3 _ _ _ _) (by show 384 + (j.val - 384) = j.val; omega)
  refine Eq.trans e ?_
  pointwise [zz_read]

/-- The sliding window's keys and values. -/
def winParts : List ((s : Shape) × (s.Idx → EReal)) :=
  [⟨S32x4x128, extractStridedSlice S32x4x128 ![0, 0, 3088] (zz X W B) slices_S32x4x3368_S32x4x128_0_0_3088⟩,
    ⟨S32x4x128, extractStridedSlice S32x4x128 ![0, 0, 3216] (zz X W B) slices_S32x4x3368_S32x4x128_0_0_3216⟩]

/-- Its concatenation along the last axis. -/
def win : FVec Ideal S32x4x256 .f32 := concatenate S32x4x256 2 (winParts X W B) concatenates_S32x4x128_S32x4x128_S32x4x256_d2

theorem win_0 (b : Fin 32) (s : Fin 4) (j : Fin 256) (h' : j.val < 128) :
    win X W B (ix3 b s j) = Z X W B b s ⟨3088 + (j.val - 0), by omega⟩ := by
  have e := concatenate_apply_piece (t := S32x4x256) 2 (winParts X W B) concatenates_S32x4x128_S32x4x128_S32x4x256_d2
    (ix3 b s j) 0 (by show 0 < 2; decide) S32x4x128 _ rfl rfl 0 rfl
    (ix3 b s ⟨j.val - 0, by omega⟩) (off_axis3 _ _ _ _) (by show 0 + (j.val - 0) = j.val; omega)
  refine Eq.trans e ?_
  pointwise [zz_read]

theorem win_1 (b : Fin 32) (s : Fin 4) (j : Fin 256) (h : 128 ≤ j.val) (h' : j.val < 256) :
    win X W B (ix3 b s j) = Z X W B b s ⟨3216 + (j.val - 128), by omega⟩ := by
  have e := concatenate_apply_piece (t := S32x4x256) 2 (winParts X W B) concatenates_S32x4x128_S32x4x128_S32x4x256_d2
    (ix3 b s j) 1 (by show 1 < 2; decide) S32x4x128 _ rfl rfl 128 rfl
    (ix3 b s ⟨j.val - 128, by omega⟩) (off_axis3 _ _ _ _) (by show 128 + (j.val - 128) = j.val; omega)
  refine Eq.trans e ?_
  pointwise [zz_read]

/-- The recurrence's two gates, the attention's gates, and zero lanes behind. -/
def gatesParts : List ((s : Shape) × (s.Idx → EReal)) :=
  [⟨S32x4x8, extractStridedSlice S32x4x8 ![0, 0, 2048] (zz X W B) slices_S32x4x3368_S32x4x8_0_0_2048⟩,
    ⟨S32x4x8, extractStridedSlice S32x4x8 ![0, 0, 2056] (zz X W B) slices_S32x4x3368_S32x4x8_0_0_2056⟩,
    ⟨S32x4x24, extractStridedSlice S32x4x24 ![0, 0, 3344] (zz X W B) slices_S32x4x3368_S32x4x24_0_0_3344⟩,
    ⟨S32x4x88, broadcastInDim S32x4x88 ![] bcast_S_S32x4x88 (constant (F := Ideal) S_ .f32 0x00000000#32)⟩]

/-- Its concatenation along the last axis. -/
def gates : FVec Ideal S32x4x128 .f32 := concatenate S32x4x128 2 (gatesParts X W B) concatenates_S32x4x8_S32x4x8_S32x4x24_S32x4x88_S32x4x128_d2

theorem gates_0 (b : Fin 32) (s : Fin 4) (j : Fin 128) (h' : j.val < 8) :
    gates X W B (ix3 b s j) = Z X W B b s ⟨2048 + (j.val - 0), by omega⟩ := by
  have e := concatenate_apply_piece (t := S32x4x128) 2 (gatesParts X W B) concatenates_S32x4x8_S32x4x8_S32x4x24_S32x4x88_S32x4x128_d2
    (ix3 b s j) 0 (by show 0 < 4; decide) S32x4x8 _ rfl rfl 0 rfl
    (ix3 b s ⟨j.val - 0, by omega⟩) (off_axis3 _ _ _ _) (by show 0 + (j.val - 0) = j.val; omega)
  refine Eq.trans e ?_
  pointwise [zz_read]

theorem gates_1 (b : Fin 32) (s : Fin 4) (j : Fin 128) (h : 8 ≤ j.val) (h' : j.val < 16) :
    gates X W B (ix3 b s j) = Z X W B b s ⟨2056 + (j.val - 8), by omega⟩ := by
  have e := concatenate_apply_piece (t := S32x4x128) 2 (gatesParts X W B) concatenates_S32x4x8_S32x4x8_S32x4x24_S32x4x88_S32x4x128_d2
    (ix3 b s j) 1 (by show 1 < 4; decide) S32x4x8 _ rfl rfl 8 rfl
    (ix3 b s ⟨j.val - 8, by omega⟩) (off_axis3 _ _ _ _) (by show 8 + (j.val - 8) = j.val; omega)
  refine Eq.trans e ?_
  pointwise [zz_read]

theorem gates_2 (b : Fin 32) (s : Fin 4) (j : Fin 128) (h : 16 ≤ j.val) (h' : j.val < 40) :
    gates X W B (ix3 b s j) = Z X W B b s ⟨3344 + (j.val - 16), by omega⟩ := by
  have e := concatenate_apply_piece (t := S32x4x128) 2 (gatesParts X W B) concatenates_S32x4x8_S32x4x8_S32x4x24_S32x4x88_S32x4x128_d2
    (ix3 b s j) 2 (by show 2 < 4; decide) S32x4x24 _ rfl rfl 16 rfl
    (ix3 b s ⟨j.val - 16, by omega⟩) (off_axis3 _ _ _ _) (by show 16 + (j.val - 16) = j.val; omega)
  refine Eq.trans e ?_
  pointwise [zz_read]

theorem gates_3 (b : Fin 32) (s : Fin 4) (j : Fin 128) (h : 40 ≤ j.val) (h' : j.val < 128) :
    gates X W B (ix3 b s j) = 0 := by
  have e := concatenate_apply_piece (t := S32x4x128) 2 (gatesParts X W B) concatenates_S32x4x8_S32x4x8_S32x4x24_S32x4x88_S32x4x128_d2
    (ix3 b s j) 3 (by show 3 < 4; decide) S32x4x88 _ rfl rfl 40 rfl
    (ix3 b s ⟨j.val - 40, by omega⟩) (off_axis3 _ _ _ _) (by show 40 + (j.val - 40) = j.val; omega)
  refine Eq.trans e ?_
  pointwise

theorem kv_read (b : Fin 32) (s : Fin 4) (j : Fin 512) : kv X W B (ix3 b s j) = Z X W B b s ⟨2576 + j.val, by omega⟩ := by
  by_cases h0 : j.val < 128
  · exact (kv_0 X W B b s j h0).trans (congrArg _ (Fin.ext (by show 2576 + (j.val - 0) = 2576 + j.val; omega)))
  by_cases h1 : j.val < 256
  · exact (kv_1 X W B b s j (by omega) h1).trans (congrArg _ (Fin.ext (by show 2704 + (j.val - 128) = 2576 + j.val; omega)))
  by_cases h2 : j.val < 384
  · exact (kv_2 X W B b s j (by omega) h2).trans (congrArg _ (Fin.ext (by show 2832 + (j.val - 256) = 2576 + j.val; omega)))
  · exact (kv_3 X W B b s j (by omega) j.isLt).trans (congrArg _ (Fin.ext (by show 2960 + (j.val - 384) = 2576 + j.val; omega)))

theorem win_read (b : Fin 32) (s : Fin 4) (j : Fin 256) : win X W B (ix3 b s j) = Z X W B b s ⟨3088 + j.val, by omega⟩ := by
  by_cases h0 : j.val < 128
  · exact (win_0 X W B b s j h0).trans (congrArg _ (Fin.ext (by show 3088 + (j.val - 0) = 3088 + j.val; omega)))
  · exact (win_1 X W B b s j (by omega) j.isLt).trans (congrArg _ (Fin.ext (by show 3216 + (j.val - 128) = 3088 + j.val; omega)))

theorem res17 : kv X W B = fun i : S32x4x512.Idx => Z X W B (i 0) (i 1) ⟨2576 + (i 2).val, by have : (i 2).val < 512 := (i 2).isLt; omega⟩ := by
  funext i
  idx_vars i
  exact kv_read X W B _ _ _

theorem res18 : win X W B = fun i : S32x4x256.Idx => Z X W B (i 0) (i 1) ⟨3088 + (i 2).val, by have : (i 2).val < 256 := (i 2).isLt; omega⟩ := by
  funext i
  idx_vars i
  exact win_read X W B _ _ _

/-- The last 512 of the cached window rows and the new rows. -/
def winAll (C : FVec Ideal S32x512x2x2x64 .f32) (U : FVec Ideal S32x4x256 .f32) : FVec Ideal S32x512x2x2x64 .f32 :=
  extractStridedSlice S32x512x2x2x64 ![0, 4, 0, 0, 0] (concatenate S32x516x2x2x64 1 [⟨S32x512x2x2x64, C⟩,
    ⟨S32x4x2x2x64, shapeCast S32x4x2x2x64 U shapeCasts_S32x4x256_S32x4x2x2x64⟩] concatenates_S32x512x2x2x64_S32x4x2x2x64_S32x516x2x2x64_d1)
    slices_S32x516x2x2x64_S32x512x2x2x64_0_4_0_0_0

/-- Off the second axis, two indices over the same other coordinates agree. -/
theorem off_axis5 {n l l' v w d : Nat} (b : Fin n) (s : Fin l) (s' : Fin l') (i : Fin v) (j : Fin w) (k : Fin d) (a : Fin 5) (ha : a ≠ 1) :
    ((ix5 b s i j k : (⟨5, ![n, l, v, w, d]⟩ : Shape).Idx) a).val = ((ix5 b s' i j k : (⟨5, ![n, l', v, w, d]⟩ : Shape).Idx) a).val := by
  match a with
  | ⟨0, _⟩ => rfl
  | ⟨1, _⟩ => exact absurd rfl ha
  | ⟨2, _⟩ => rfl
  | ⟨3, _⟩ => rfl
  | ⟨4, _⟩ => rfl

/-- Four rows on, an index of the 512 rows is one of the 516. -/
theorem on_axis5 (b : Fin 32) (s : Fin 512) (i j : Fin 2) (k : Fin 64) (a : Fin 5) :
    ((ix5 b (⟨s.val + 4, by omega⟩ : Fin 516) i j k : S32x516x2x2x64.Idx) a).val = (![0, 4, 0, 0, 0] : Fin 5 → Nat) a + ((ix5 b s i j k : S32x512x2x2x64.Idx) a).val := by
  match a with
  | ⟨0, _⟩ => show b.val = 0 + b.val; omega
  | ⟨1, _⟩ => show s.val + 4 = 4 + s.val; omega
  | ⟨2, _⟩ => show i.val = 0 + i.val; omega
  | ⟨3, _⟩ => show j.val = 0 + j.val; omega
  | ⟨4, _⟩ => show k.val = 0 + k.val; omega

theorem winAll_0 (C : FVec Ideal S32x512x2x2x64 .f32) (U : FVec Ideal S32x4x256 .f32) (b : Fin 32) (s : Fin 512) (i j : Fin 2) (k : Fin 64) (h : s.val < 508) :
    winAll C U (ix5 b s i j k) = C (ix5 b (⟨s.val + 4, by omega⟩ : Fin 512) i j k) :=
  (extractStridedSlice_apply _ _ _ _ (ix5 b (⟨s.val + 4, by omega⟩ : Fin 516) i j k) (on_axis5 b s i j k)).trans
    (concatenate_apply_piece (t := S32x516x2x2x64) 1 _ _ _ 0 (by show 0 < 2; decide) S32x512x2x2x64 _ rfl rfl 0 rfl
      (ix5 b (⟨s.val + 4, by omega⟩ : Fin 512) i j k) (off_axis5 _ _ _ _ _ _) (by show 0 + (s.val + 4) = s.val + 4; omega))

theorem winAll_1 (C : FVec Ideal S32x512x2x2x64 .f32) (U : FVec Ideal S32x4x256 .f32) (b : Fin 32) (s : Fin 512) (i j : Fin 2) (k : Fin 64) (h : 508 ≤ s.val) :
    winAll C U (ix5 b s i j k) = shapeCast S32x4x2x2x64 U shapeCasts_S32x4x256_S32x4x2x2x64 (ix5 b (⟨s.val - 508, by omega⟩ : Fin 4) i j k) :=
  (extractStridedSlice_apply _ _ _ _ (ix5 b (⟨s.val + 4, by omega⟩ : Fin 516) i j k) (on_axis5 b s i j k)).trans
    (concatenate_apply_piece (t := S32x516x2x2x64) 1 _ _ _ 1 (by show 1 < 2; decide) S32x4x2x2x64 _ rfl rfl 512 rfl
      (ix5 b (⟨s.val - 508, by omega⟩ : Fin 4) i j k) (off_axis5 _ _ _ _ _ _) (by show 512 + (s.val - 508) = s.val + 4; omega))

end Cert.Reference3Ideal.Proj
-- ==== Proof.ProjSFinal.lean ====
module

public import proofs.«01_k».proof.Proof.ProjWeights
public import proofs.«01_k».proof.Proof.ProjSRef
public import proofs.«01_k».proof.Proof.Gen.Kernel3Ideal.Frame
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)
open Cert.Kernel2Ideal.Proj (WP BP)

variable (m : (ℓ : Loc nD τ sig) → Buf (Elt Ideal) ℓ)

/-! The projection of the sample's rows: what the call leaves in its seven arrays. -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- A row of the padded input times a column of the weights the call is given, plus that column's bias. -/
def G3 (A : FVec Ideal S256x1024 .f32) (Wp : FVec Ideal S1024x3456 .bf16) (Bp : FVec Ideal S1x3456 .f32)
    (r : Fin 256) (j : Fin 3456) : EReal :=
  (∑ k : Fin 1024, A (ix2 r k) * Wp (ix2 k j)) + Bp (ix2 0 j)

theorem cov3 : (cfg0.win 3).Covers := by decide +kernel

theorem final3 (c : Dev nD) : (dats m 0 c).arrAt 3 (cfgs 0).N
    = fun i : S256x1024.Idx => G3 (V m c main_v15) (V m c main_v6) (V m c main_v13)
        (i 0) ⟨0 + (i 1).val, by have : (i 1).val < 1024 := (i 1).isLt; omega⟩ := by
  refine (dats m 0 c).arrAt_eq_of_covers 3 _ cov3 fun t _ y => ?_
  blk_simp
  rw [after0_3]; frame_out
  pointwise [k0_pay2, k0_pay1, G3]
  blk_point [iblk, idx t]

theorem cov4 : (cfg0.win 4).Covers := by decide +kernel

theorem final4 (c : Dev nD) : (dats m 0 c).arrAt 4 (cfgs 0).N
    = fun i : S256x512.Idx => G3 (V m c main_v15) (V m c main_v6) (V m c main_v13)
        (i 0) ⟨1024 + (i 1).val, by have : (i 1).val < 512 := (i 1).isLt; omega⟩ := by
  refine (dats m 0 c).arrAt_eq_of_covers 4 _ cov4 fun t _ y => ?_
  blk_simp
  rw [after0_4]; frame_out
  pointwise [k0_pay3, k0_pay1, G3]
  blk_point [iblk, idx t]

theorem cov5 : (cfg0.win 5).Covers := by decide +kernel

theorem final5 (c : Dev nD) : (dats m 0 c).arrAt 5 (cfgs 0).N
    = fun i : S256x512.Idx => G3 (V m c main_v15) (V m c main_v6) (V m c main_v13)
        (i 0) ⟨1536 + (i 1).val, by have : (i 1).val < 512 := (i 1).isLt; omega⟩ := by
  refine (dats m 0 c).arrAt_eq_of_covers 5 _ cov5 fun t _ y => ?_
  blk_simp
  rw [after0_5]; frame_out
  pointwise [k0_pay4, k0_pay1, G3]
  blk_point [iblk, idx t]

theorem cov6 : (cfg0.win 6).Covers := by decide +kernel

theorem final6 (c : Dev nD) : (dats m 0 c).arrAt 6 (cfgs 0).N
    = fun i : S256x512.Idx => G3 (V m c main_v15) (V m c main_v6) (V m c main_v13)
        (i 0) ⟨2048 + (i 1).val, by have : (i 1).val < 512 := (i 1).isLt; omega⟩ := by
  refine (dats m 0 c).arrAt_eq_of_covers 6 _ cov6 fun t _ y => ?_
  blk_simp
  rw [after0_6]; frame_out
  pointwise [k0_pay5, k0_pay1, G3]
  blk_point [iblk, idx t]

theorem cov7 : (cfg0.win 7).Covers := by decide +kernel

theorem final7 (c : Dev nD) : (dats m 0 c).arrAt 7 (cfgs 0).N
    = fun i : S256x512.Idx => G3 (V m c main_v15) (V m c main_v6) (V m c main_v13)
        (i 0) ⟨2560 + (i 1).val, by have : (i 1).val < 512 := (i 1).isLt; omega⟩ := by
  refine (dats m 0 c).arrAt_eq_of_covers 7 _ cov7 fun t _ y => ?_
  blk_simp
  rw [after0_7]; frame_out
  pointwise [k0_pay6, k0_pay1, G3]
  blk_point [iblk, idx t]

theorem cov8 : (cfg0.win 8).Covers := by decide +kernel

theorem final8 (c : Dev nD) : (dats m 0 c).arrAt 8 (cfgs 0).N
    = fun i : S256x256.Idx => G3 (V m c main_v15) (V m c main_v6) (V m c main_v13)
        (i 0) ⟨3072 + (i 1).val, by have : (i 1).val < 256 := (i 1).isLt; omega⟩ := by
  refine (dats m 0 c).arrAt_eq_of_covers 8 _ cov8 fun t _ y => ?_
  blk_simp
  rw [after0_8]; frame_out
  pointwise [k0_pay7, k0_pay1, G3]
  blk_point [iblk, idx t]

theorem cov9 : (cfg0.win 9).Covers := by decide +kernel

theorem final9 (c : Dev nD) : (dats m 0 c).arrAt 9 (cfgs 0).N
    = fun i : S256x128.Idx => G3 (V m c main_v15) (V m c main_v6) (V m c main_v13)
        (i 0) ⟨3328 + (i 1).val, by have : (i 1).val < 128 := (i 1).isLt; omega⟩ := by
  refine (dats m 0 c).arrAt_eq_of_covers 9 _ cov9 fun t _ y => ?_
  blk_simp
  rw [after0_9]; frame_out
  pointwise [k0_pay8, k0_pay1, G3]
  blk_point [iblk, idx t]

/-- The input with four rows of zeros before each sequence's four new ones, flattened. -/
def xArr (X : FVec Ideal S32x4x1024 .f32) : FVec Ideal S256x1024 .f32 :=
  shapeCast S256x1024 (pad S32x8x1024 ![0, 4, 0] ![0, 0, 0] ![0, 0, 0] X (sitofp (F := Ideal) .f32 (constantI S_ 32 0#32)) pads_S32x4x1024_S32x8x1024_000_400_000 h_S_) shapeCasts_S32x8x1024_S256x1024

/-- The bias as one row. -/
abbrev bArr (B : FVec Ideal S3368 .f32) : FVec Ideal S1x3456 .f32 := shapeCast S1x3456 (BP B) shapeCasts_S3456_S1x3456

set_option maxHeartbeats 2000000 in
theorem V_v6 (c : Dev nD) : V m c main_v6 = WP (m ((c : Thread nD τ).loc main_arg1)) := by
  simp only [V, V0, hostOps0, hostOps0_1, hostOps0_2, List.flatten_cons, List.flatten_nil, List.append_nil, List.cons_append, List.nil_append]
  after_results
  all_goals rfl
set_option maxHeartbeats 2000000 in
theorem V_v13 (c : Dev nD) : V m c main_v13 = bArr (m ((c : Thread nD τ).loc main_arg2)) := by
  simp only [V, V0, hostOps0, hostOps0_1, hostOps0_2, List.flatten_cons, List.flatten_nil, List.append_nil, List.cons_append, List.nil_append]
  after_results
  all_goals rfl
set_option maxHeartbeats 2000000 in
theorem V_v15 (c : Dev nD) : V m c main_v15 = xArr (m ((c : Thread nD τ).loc main_arg0) : FVec Ideal S32x4x1024 .f32) := by
  simp only [V, V0, hostOps0, hostOps0_1, hostOps0_2, List.flatten_cons, List.flatten_nil, List.append_nil, List.cons_append, List.nil_append]
  after_results
  all_goals rfl

theorem after3 (V : Valuation τ sig (Elt Ideal)) : StableHlo.after (List.flatten [hostOps1]) V (Proc.devRef .tc main_v18)
    = extractStridedSlice S32x4x1024 ![0, 4, 0] (shapeCast S32x8x1024 (V (Proc.devRef .tc main_v16_0) : FVec Ideal S256x1024 .f32) shapeCasts_S256x1024_S32x8x1024) slices_S32x8x1024_S32x4x1024_0_4_0 := by
  simp only [hostOps1, List.flatten_cons, List.flatten_nil, List.append_nil]
  after_results
  all_goals rfl
theorem tail3 (c : Dev nD) : Pipeline.afterTail₀ cfgs (dats m) 0 (V0 m) [hostOps1] c main_v18
    = extractStridedSlice S32x4x1024 ![0, 4, 0] (shapeCast S32x8x1024 ((dats m 0 c).arrAt 3 (cfgs 0).N : FVec Ideal S256x1024 .f32) shapeCasts_S256x1024_S32x8x1024) slices_S32x8x1024_S32x4x1024_0_4_0 := by
  have e : Pipeline.withArrays (cfgs 0).spec c (V0 m c) (fun w => (dats m 0 c).arrAt w (cfgs 0).N) (Proc.devRef .tc main_v16_0) = (dats m 0 c).arrAt 3 (cfgs 0).N :=
    Pipeline.withArrays_arr (cfgs 0).spec winFacts0.arr_inj c (V0 m c) (fun w => (dats m 0 c).arrAt w (cfgs 0).N) 3
  refine (after3 _).trans ?_
  rw [e]

theorem after4 (V : Valuation τ sig (Elt Ideal)) : StableHlo.after (List.flatten [hostOps1]) V (Proc.devRef .tc main_v20)
    = extractStridedSlice S32x4x512 ![0, 4, 0] (shapeCast S32x8x512 (V (Proc.devRef .tc main_v16_1) : FVec Ideal S256x512 .f32) shapeCasts_S256x512_S32x8x512) slices_S32x8x512_S32x4x512_0_4_0 := by
  simp only [hostOps1, List.flatten_cons, List.flatten_nil, List.append_nil]
  after_results
  all_goals rfl
theorem tail4 (c : Dev nD) : Pipeline.afterTail₀ cfgs (dats m) 0 (V0 m) [hostOps1] c main_v20
    = extractStridedSlice S32x4x512 ![0, 4, 0] (shapeCast S32x8x512 ((dats m 0 c).arrAt 4 (cfgs 0).N : FVec Ideal S256x512 .f32) shapeCasts_S256x512_S32x8x512) slices_S32x8x512_S32x4x512_0_4_0 := by
  have e : Pipeline.withArrays (cfgs 0).spec c (V0 m c) (fun w => (dats m 0 c).arrAt w (cfgs 0).N) (Proc.devRef .tc main_v16_1) = (dats m 0 c).arrAt 4 (cfgs 0).N :=
    Pipeline.withArrays_arr (cfgs 0).spec winFacts0.arr_inj c (V0 m c) (fun w => (dats m 0 c).arrAt w (cfgs 0).N) 4
  refine (after4 _).trans ?_
  rw [e]

theorem after5 (V : Valuation τ sig (Elt Ideal)) : StableHlo.after (List.flatten [hostOps1]) V (Proc.devRef .tc main_v22)
    = extractStridedSlice S32x4x512 ![0, 4, 0] (shapeCast S32x8x512 (V (Proc.devRef .tc main_v16_2) : FVec Ideal S256x512 .f32) shapeCasts_S256x512_S32x8x512) slices_S32x8x512_S32x4x512_0_4_0 := by
  simp only [hostOps1, List.flatten_cons, List.flatten_nil, List.append_nil]
  after_results
  all_goals rfl
theorem tail5 (c : Dev nD) : Pipeline.afterTail₀ cfgs (dats m) 0 (V0 m) [hostOps1] c main_v22
    = extractStridedSlice S32x4x512 ![0, 4, 0] (shapeCast S32x8x512 ((dats m 0 c).arrAt 5 (cfgs 0).N : FVec Ideal S256x512 .f32) shapeCasts_S256x512_S32x8x512) slices_S32x8x512_S32x4x512_0_4_0 := by
  have e : Pipeline.withArrays (cfgs 0).spec c (V0 m c) (fun w => (dats m 0 c).arrAt w (cfgs 0).N) (Proc.devRef .tc main_v16_2) = (dats m 0 c).arrAt 5 (cfgs 0).N :=
    Pipeline.withArrays_arr (cfgs 0).spec winFacts0.arr_inj c (V0 m c) (fun w => (dats m 0 c).arrAt w (cfgs 0).N) 5
  refine (after5 _).trans ?_
  rw [e]

theorem after6 (V : Valuation τ sig (Elt Ideal)) : StableHlo.after (List.flatten [hostOps1]) V (Proc.devRef .tc main_v24)
    = extractStridedSlice S32x4x512 ![0, 4, 0] (shapeCast S32x8x512 (V (Proc.devRef .tc main_v16_3) : FVec Ideal S256x512 .f32) shapeCasts_S256x512_S32x8x512) slices_S32x8x512_S32x4x512_0_4_0 := by
  simp only [hostOps1, List.flatten_cons, List.flatten_nil, List.append_nil]
  after_results
  all_goals rfl
theorem tail6 (c : Dev nD) : Pipeline.afterTail₀ cfgs (dats m) 0 (V0 m) [hostOps1] c main_v24
    = extractStridedSlice S32x4x512 ![0, 4, 0] (shapeCast S32x8x512 ((dats m 0 c).arrAt 6 (cfgs 0).N : FVec Ideal S256x512 .f32) shapeCasts_S256x512_S32x8x512) slices_S32x8x512_S32x4x512_0_4_0 := by
  have e : Pipeline.withArrays (cfgs 0).spec c (V0 m c) (fun w => (dats m 0 c).arrAt w (cfgs 0).N) (Proc.devRef .tc main_v16_3) = (dats m 0 c).arrAt 6 (cfgs 0).N :=
    Pipeline.withArrays_arr (cfgs 0).spec winFacts0.arr_inj c (V0 m c) (fun w => (dats m 0 c).arrAt w (cfgs 0).N) 6
  refine (after6 _).trans ?_
  rw [e]

theorem after7 (V : Valuation τ sig (Elt Ideal)) : StableHlo.after (List.flatten [hostOps1]) V (Proc.devRef .tc main_v26)
    = extractStridedSlice S32x4x512 ![0, 4, 0] (shapeCast S32x8x512 (V (Proc.devRef .tc main_v16_4) : FVec Ideal S256x512 .f32) shapeCasts_S256x512_S32x8x512) slices_S32x8x512_S32x4x512_0_4_0 := by
  simp only [hostOps1, List.flatten_cons, List.flatten_nil, List.append_nil]
  after_results
  all_goals rfl
theorem tail7 (c : Dev nD) : Pipeline.afterTail₀ cfgs (dats m) 0 (V0 m) [hostOps1] c main_v26
    = extractStridedSlice S32x4x512 ![0, 4, 0] (shapeCast S32x8x512 ((dats m 0 c).arrAt 7 (cfgs 0).N : FVec Ideal S256x512 .f32) shapeCasts_S256x512_S32x8x512) slices_S32x8x512_S32x4x512_0_4_0 := by
  have e : Pipeline.withArrays (cfgs 0).spec c (V0 m c) (fun w => (dats m 0 c).arrAt w (cfgs 0).N) (Proc.devRef .tc main_v16_4) = (dats m 0 c).arrAt 7 (cfgs 0).N :=
    Pipeline.withArrays_arr (cfgs 0).spec winFacts0.arr_inj c (V0 m c) (fun w => (dats m 0 c).arrAt w (cfgs 0).N) 7
  refine (after7 _).trans ?_
  rw [e]

theorem after8 (V : Valuation τ sig (Elt Ideal)) : StableHlo.after (List.flatten [hostOps1]) V (Proc.devRef .tc main_v28)
    = extractStridedSlice S32x4x256 ![0, 4, 0] (shapeCast S32x8x256 (V (Proc.devRef .tc main_v16_5) : FVec Ideal S256x256 .f32) shapeCasts_S256x256_S32x8x256) slices_S32x8x256_S32x4x256_0_4_0 := by
  simp only [hostOps1, List.flatten_cons, List.flatten_nil, List.append_nil]
  after_results
  all_goals rfl
theorem tail8 (c : Dev nD) : Pipeline.afterTail₀ cfgs (dats m) 0 (V0 m) [hostOps1] c main_v28
    = extractStridedSlice S32x4x256 ![0, 4, 0] (shapeCast S32x8x256 ((dats m 0 c).arrAt 8 (cfgs 0).N : FVec Ideal S256x256 .f32) shapeCasts_S256x256_S32x8x256) slices_S32x8x256_S32x4x256_0_4_0 := by
  have e : Pipeline.withArrays (cfgs 0).spec c (V0 m c) (fun w => (dats m 0 c).arrAt w (cfgs 0).N) (Proc.devRef .tc main_v16_5) = (dats m 0 c).arrAt 8 (cfgs 0).N :=
    Pipeline.withArrays_arr (cfgs 0).spec winFacts0.arr_inj c (V0 m c) (fun w => (dats m 0 c).arrAt w (cfgs 0).N) 8
  refine (after8 _).trans ?_
  rw [e]

theorem after9 (V : Valuation τ sig (Elt Ideal)) : StableHlo.after (List.flatten [hostOps1]) V (Proc.devRef .tc main_v30)
    = extractStridedSlice S32x4x128 ![0, 4, 0] (shapeCast S32x8x128 (V (Proc.devRef .tc main_v16_6) : FVec Ideal S256x128 .f32) shapeCasts_S256x128_S32x8x128) slices_S32x8x128_S32x4x128_0_4_0 := by
  simp only [hostOps1, List.flatten_cons, List.flatten_nil, List.append_nil]
  after_results
  all_goals rfl
theorem tail9 (c : Dev nD) : Pipeline.afterTail₀ cfgs (dats m) 0 (V0 m) [hostOps1] c main_v30
    = extractStridedSlice S32x4x128 ![0, 4, 0] (shapeCast S32x8x128 ((dats m 0 c).arrAt 9 (cfgs 0).N : FVec Ideal S256x128 .f32) shapeCasts_S256x128_S32x8x128) slices_S32x8x128_S32x4x128_0_4_0 := by
  have e : Pipeline.withArrays (cfgs 0).spec c (V0 m c) (fun w => (dats m 0 c).arrAt w (cfgs 0).N) (Proc.devRef .tc main_v16_6) = (dats m 0 c).arrAt 9 (cfgs 0).N :=
    Pipeline.withArrays_arr (cfgs 0).spec winFacts0.arr_inj c (V0 m c) (fun w => (dats m 0 c).arrAt w (cfgs 0).N) 9
  refine (after9 _).trans ?_
  rw [e]

/-- The cached window rows without their first four, and the new rows behind them. -/
def winTail (C : FVec Ideal S32x512x2x2x64 .f32) (U : FVec Ideal S32x4x256 .f32) : FVec Ideal S32x512x2x2x64 .f32 :=
  concatenate S32x512x2x2x64 1 [⟨S32x508x2x2x64, extractStridedSlice S32x508x2x2x64 ![0, 4, 0, 0, 0] C slices_S32x512x2x2x64_S32x508x2x2x64_0_4_0_0_0⟩,
    ⟨S32x4x2x2x64, shapeCast S32x4x2x2x64 U shapeCasts_S32x4x256_S32x4x2x2x64⟩] concatenates_S32x508x2x2x64_S32x4x2x2x64_S32x512x2x2x64_d1

theorem after10 (V : Valuation τ sig (Elt Ideal)) : StableHlo.after (List.flatten [hostOps1]) V (Proc.devRef .tc main_v33)
    = winTail (V (Proc.devRef .tc main_arg3)) (extractStridedSlice S32x4x256 ![0, 4, 0] (shapeCast S32x8x256 (V (Proc.devRef .tc main_v16_5) : FVec Ideal S256x256 .f32) shapeCasts_S256x256_S32x8x256) slices_S32x8x256_S32x4x256_0_4_0) := by
  simp only [hostOps1, List.flatten_cons, List.flatten_nil, List.append_nil]
  after_results
  all_goals rfl
theorem tail10 (c : Dev nD) : Pipeline.afterTail₀ cfgs (dats m) 0 (V0 m) [hostOps1] c main_v33
    = winTail (m ((c : Thread nD τ).loc main_arg3)) (Pipeline.afterTail₀ cfgs (dats m) 0 (V0 m) [hostOps1] c main_v28) := by
  have e : Pipeline.withArrays (cfgs 0).spec c (V0 m c) (fun w => (dats m 0 c).arrAt w (cfgs 0).N) (Proc.devRef .tc main_v16_5) = (dats m 0 c).arrAt 8 (cfgs 0).N :=
    Pipeline.withArrays_arr (cfgs 0).spec winFacts0.arr_inj c (V0 m c) (fun w => (dats m 0 c).arrAt w (cfgs 0).N) 8
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  refine (after10 _).trans ?_
  rw [e, e3, tail8]

end Cert.Kernel3Ideal.Proj
-- ==== Proof.ProjSAlgebra.lean ====
module

public import proofs.«01_k».proof.Proof.ProjSFinal
public import proofs.«01_k».proof.Defs

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.Kernel2Ideal.Proj (WP BP wp_0 wp_1 wp_2 wp_3 wp_4 bp_0 bp_1 bp_2 bp_3 bp_4)
open Cert.Reference3Ideal.Proj (Z zz kv win gates res4 res5 res6 res9 res17 res18 gates_0 gates_1 gates_2 gates_3 winAll winAll_0 winAll_1 off_axis5)

section
variable (X : FVec Ideal S32x4x1024 .f32) (W : FVec Ideal S1024x3368 .f32) (B : FVec Ideal S3368 .f32)

/-- Behind the four rows of zeros stand the sequence's new tokens. -/
theorem xArr_read (b : Fin 32) (s : Fin 4) (k : Fin 1024) :
    xArr X (ix2 (⟨b.val * 8 + (4 + s.val), by omega⟩ : Fin 256) k) = X (ix3 b s k) := by
  have e : ∀ P : FVec Ideal S32x8x1024 .f32, shapeCast S256x1024 P shapeCasts_S32x8x1024_S256x1024 (ix2 (⟨b.val * 8 + (4 + s.val), by omega⟩ : Fin 256) k)
      = P (ix3 b (⟨4 + s.val, by omega⟩ : Fin 8) k) := by
    intro P
    pointwise
    blk_ext
  refine (e _).trans ?_
  refine pad_apply_of_inside _ _ _ _ _ _ _ _ (ix3 b s k) fun a => ?_
  match a with
  | ⟨0, _⟩ => show b.val = 0 + b.val * (0 + 1); omega
  | ⟨1, _⟩ => show 4 + s.val = 4 + s.val * (0 + 1); omega
  | ⟨2, _⟩ => show k.val = 0 + k.val * (0 + 1); omega

theorem bArr_read (j : Fin 3456) : bArr B (ix2 0 j) = BP B (ix1 j) := by
  pointwise

theorem g3_read (b : Fin 32) (s : Fin 4) (j : Fin 3456) : G3 (xArr X) (WP W) (bArr B) ⟨b.val * 8 + (4 + s.val), by omega⟩ j
    = (∑ k : Fin 1024, X (ix3 b s k) * WP W (ix2 k j)) + BP B (ix1 j) := by
  unfold G3
  exact congrArg₂ (· + ·) (Finset.sum_congr rfl fun k _ => congrArg (· * _) (xArr_read X b s k)) (bArr_read B j)

theorem g3_0 (b : Fin 32) (s : Fin 4) (j : Fin 3456) (h' : j.val < 2048) :
    G3 (xArr X) (WP W) (bArr B) ⟨b.val * 8 + (4 + s.val), by omega⟩ j = Z X W B b s ⟨j.val, by omega⟩ := by
  refine (g3_read X W B b s j).trans ?_
  unfold Z
  exact congrArg₂ (· + ·) (Finset.sum_congr rfl fun k _ => congrArg _ (wp_0 W k j h')) (bp_0 B j h')

theorem g3_1 (b : Fin 32) (s : Fin 4) (j : Fin 3456) (h : 2048 ≤ j.val) (h' : j.val < 3328) :
    G3 (xArr X) (WP W) (bArr B) ⟨b.val * 8 + (4 + s.val), by omega⟩ j = Z X W B b s ⟨j.val + 16, by omega⟩ := by
  refine (g3_read X W B b s j).trans ?_
  unfold Z
  exact congrArg₂ (· + ·) (Finset.sum_congr rfl fun k _ => congrArg _ (wp_1 W k j h h')) (bp_1 B j h h')

theorem g3_2 (b : Fin 32) (s : Fin 4) (j : Fin 3456) (h : 3328 ≤ j.val) (h' : j.val < 3344) :
    G3 (xArr X) (WP W) (bArr B) ⟨b.val * 8 + (4 + s.val), by omega⟩ j = Z X W B b s ⟨j.val - 1280, by omega⟩ := by
  refine (g3_read X W B b s j).trans ?_
  unfold Z
  exact congrArg₂ (· + ·) (Finset.sum_congr rfl fun k _ => congrArg _ (wp_2 W k j h h')) (bp_2 B j h h')

theorem g3_3 (b : Fin 32) (s : Fin 4) (j : Fin 3456) (h : 3344 ≤ j.val) (h' : j.val < 3368) :
    G3 (xArr X) (WP W) (bArr B) ⟨b.val * 8 + (4 + s.val), by omega⟩ j = Z X W B b s ⟨j.val, by omega⟩ := by
  refine (g3_read X W B b s j).trans ?_
  unfold Z
  exact congrArg₂ (· + ·) (Finset.sum_congr rfl fun k _ => congrArg _ (wp_3 W k j h h')) (bp_3 B j h h')

theorem g3_4 (b : Fin 32) (s : Fin 4) (j : Fin 3456) (h : 3368 ≤ j.val) :
    G3 (xArr X) (WP W) (bArr B) ⟨b.val * 8 + (4 + s.val), by omega⟩ j = 0 := by
  refine (g3_read X W B b s j).trans ?_
  rw [bp_4 B j h, add_zero]
  exact Finset.sum_eq_zero fun k _ => by rw [wp_4 W k j h, mul_zero]

/-- The last four rows of each group of eight. -/
theorem rows1024 (Y : FVec Ideal S256x1024 .f32) (b : Fin 32) (s : Fin 4) (j : Fin 1024) :
    extractStridedSlice S32x4x1024 ![0, 4, 0] (shapeCast S32x8x1024 Y shapeCasts_S256x1024_S32x8x1024) slices_S32x8x1024_S32x4x1024_0_4_0 (ix3 b s j)
      = Y (ix2 (⟨b.val * 8 + (4 + s.val), by omega⟩ : Fin 256) j) := by
  pointwise
  blk_ext

/-- The last four rows of each group of eight. -/
theorem rows512 (Y : FVec Ideal S256x512 .f32) (b : Fin 32) (s : Fin 4) (j : Fin 512) :
    extractStridedSlice S32x4x512 ![0, 4, 0] (shapeCast S32x8x512 Y shapeCasts_S256x512_S32x8x512) slices_S32x8x512_S32x4x512_0_4_0 (ix3 b s j)
      = Y (ix2 (⟨b.val * 8 + (4 + s.val), by omega⟩ : Fin 256) j) := by
  pointwise
  blk_ext

/-- The last four rows of each group of eight. -/
theorem rows256 (Y : FVec Ideal S256x256 .f32) (b : Fin 32) (s : Fin 4) (j : Fin 256) :
    extractStridedSlice S32x4x256 ![0, 4, 0] (shapeCast S32x8x256 Y shapeCasts_S256x256_S32x8x256) slices_S32x8x256_S32x4x256_0_4_0 (ix3 b s j)
      = Y (ix2 (⟨b.val * 8 + (4 + s.val), by omega⟩ : Fin 256) j) := by
  pointwise
  blk_ext

/-- The last four rows of each group of eight. -/
theorem rows128 (Y : FVec Ideal S256x128 .f32) (b : Fin 32) (s : Fin 4) (j : Fin 128) :
    extractStridedSlice S32x4x128 ![0, 4, 0] (shapeCast S32x8x128 Y shapeCasts_S256x128_S32x8x128) slices_S32x8x128_S32x4x128_0_4_0 (ix3 b s j)
      = Y (ix2 (⟨b.val * 8 + (4 + s.val), by omega⟩ : Fin 256) j) := by
  pointwise
  blk_ext

theorem out3 (b : Fin 32) (s : Fin 4) (j : Fin 1024) :
    G3 (xArr X) (WP W) (bArr B) ⟨b.val * 8 + (4 + s.val), by omega⟩ ⟨0 + j.val, by omega⟩ = Z X W B b s ⟨0 + j.val, by omega⟩ :=
  (g3_0 X W B b s ⟨0 + j.val, by omega⟩ (by show 0 + j.val < 2048; omega)).trans (congrArg _ (Fin.ext (by show 0 + j.val = 0 + j.val; omega)))

theorem out4 (b : Fin 32) (s : Fin 4) (j : Fin 512) :
    G3 (xArr X) (WP W) (bArr B) ⟨b.val * 8 + (4 + s.val), by omega⟩ ⟨1024 + j.val, by omega⟩ = Z X W B b s ⟨1024 + j.val, by omega⟩ :=
  (g3_0 X W B b s ⟨1024 + j.val, by omega⟩ (by show 1024 + j.val < 2048; omega)).trans (congrArg _ (Fin.ext (by show 1024 + j.val = 1024 + j.val; omega)))

theorem out5 (b : Fin 32) (s : Fin 4) (j : Fin 512) :
    G3 (xArr X) (WP W) (bArr B) ⟨b.val * 8 + (4 + s.val), by omega⟩ ⟨1536 + j.val, by omega⟩ = Z X W B b s ⟨1536 + j.val, by omega⟩ :=
  (g3_0 X W B b s ⟨1536 + j.val, by omega⟩ (by show 1536 + j.val < 2048; omega)).trans (congrArg _ (Fin.ext (by show 1536 + j.val = 1536 + j.val; omega)))

theorem out6 (b : Fin 32) (s : Fin 4) (j : Fin 512) :
    G3 (xArr X) (WP W) (bArr B) ⟨b.val * 8 + (4 + s.val), by omega⟩ ⟨2048 + j.val, by omega⟩ = Z X W B b s ⟨2064 + j.val, by omega⟩ :=
  (g3_1 X W B b s ⟨2048 + j.val, by omega⟩ (by show 2048 ≤ 2048 + j.val; omega) (by show 2048 + j.val < 3328; omega)).trans (congrArg _ (Fin.ext (by show 2048 + j.val + 16 = 2064 + j.val; omega)))

theorem out7 (b : Fin 32) (s : Fin 4) (j : Fin 512) :
    G3 (xArr X) (WP W) (bArr B) ⟨b.val * 8 + (4 + s.val), by omega⟩ ⟨2560 + j.val, by omega⟩ = Z X W B b s ⟨2576 + j.val, by omega⟩ :=
  (g3_1 X W B b s ⟨2560 + j.val, by omega⟩ (by show 2048 ≤ 2560 + j.val; omega) (by show 2560 + j.val < 3328; omega)).trans (congrArg _ (Fin.ext (by show 2560 + j.val + 16 = 2576 + j.val; omega)))

theorem out8 (b : Fin 32) (s : Fin 4) (j : Fin 256) :
    G3 (xArr X) (WP W) (bArr B) ⟨b.val * 8 + (4 + s.val), by omega⟩ ⟨3072 + j.val, by omega⟩ = Z X W B b s ⟨3088 + j.val, by omega⟩ :=
  (g3_1 X W B b s ⟨3072 + j.val, by omega⟩ (by show 2048 ≤ 3072 + j.val; omega) (by show 3072 + j.val < 3328; omega)).trans (congrArg _ (Fin.ext (by show 3072 + j.val + 16 = 3088 + j.val; omega)))

theorem out9 (b : Fin 32) (s : Fin 4) (j : Fin 128) :
    G3 (xArr X) (WP W) (bArr B) ⟨b.val * 8 + (4 + s.val), by omega⟩ ⟨3328 + j.val, by omega⟩ = gates X W B (ix3 b s j) := by
  by_cases h0 : j.val < 8
  · refine (g3_2 X W B b s ⟨3328 + j.val, by omega⟩ (by show 3328 ≤ 3328 + j.val; omega) (by show 3328 + j.val < 3344; omega)).trans ?_
    refine Eq.trans ?_ (gates_0 X W B b s j h0).symm
    exact congrArg _ (Fin.ext (by show 3328 + j.val - 1280 = 2048 + (j.val - 0); omega))
  by_cases h1 : j.val < 16
  · refine (g3_2 X W B b s ⟨3328 + j.val, by omega⟩ (by show 3328 ≤ 3328 + j.val; omega) (by show 3328 + j.val < 3344; omega)).trans ?_
    refine Eq.trans ?_ (gates_1 X W B b s j (by omega) h1).symm
    exact congrArg _ (Fin.ext (by show 3328 + j.val - 1280 = 2056 + (j.val - 8); omega))
  by_cases h2 : j.val < 40
  · refine (g3_3 X W B b s ⟨3328 + j.val, by omega⟩ (by show 3344 ≤ 3328 + j.val; omega) (by show 3328 + j.val < 3368; omega)).trans ?_
    refine Eq.trans ?_ (gates_2 X W B b s j (by omega) h2).symm
    exact congrArg _ (Fin.ext (by show 3328 + j.val = 3344 + (j.val - 16); omega))
  · refine (g3_4 X W B b s ⟨3328 + j.val, by omega⟩ (by show 3368 ≤ 3328 + j.val; omega)).trans ?_
    exact (gates_3 X W B b s j (by omega) j.isLt).symm

/-- Dropping the first four cached rows before the new ones are put behind them keeps the last 512 of them all. -/
theorem winTail_eq (C : FVec Ideal S32x512x2x2x64 .f32) (U : FVec Ideal S32x4x256 .f32) : winTail C U = winAll C U := by
  funext x
  obtain ⟨b, s, i, j, k, rfl⟩ : ∃ (b : Fin 32) (s : Fin 512) (i j : Fin 2) (k : Fin 64), x = ix5 b s i j k := ⟨x 0, x 1, x 2, x 3, x 4, eq_ix5 x⟩
  by_cases h : s.val < 508
  · refine Eq.trans ?_ (winAll_0 C U b s i j k h).symm
    refine (concatenate_apply_piece (t := S32x512x2x2x64) 1 _ _ _ 0 (by show 0 < 2; decide) S32x508x2x2x64 _ rfl rfl 0 rfl
      (ix5 b (⟨s.val, h⟩ : Fin 508) i j k) (off_axis5 _ _ _ _ _ _) (by show 0 + s.val = s.val; omega)).trans ?_
    refine extractStridedSlice_apply _ _ _ _ _ fun a => ?_
    match a with
    | ⟨0, _⟩ => show b.val = 0 + b.val; omega
    | ⟨1, _⟩ => show s.val + 4 = 4 + s.val; omega
    | ⟨2, _⟩ => show i.val = 0 + i.val; omega
    | ⟨3, _⟩ => show j.val = 0 + j.val; omega
    | ⟨4, _⟩ => show k.val = 0 + k.val; omega
  · refine Eq.trans ?_ (winAll_1 C U b s i j k (by omega)).symm
    exact concatenate_apply_piece (t := S32x512x2x2x64) 1 _ _ _ 1 (by show 1 < 2; decide) S32x4x2x2x64 _ rfl rfl 508 rfl
      (ix5 b (⟨s.val - 508, by omega⟩ : Fin 4) i j k) (off_axis5 _ _ _ _ _ _) (by show 508 + (s.val - 508) = s.val; omega)

end

variable (m : (ℓ : Loc nD τ sig) → Buf (Elt Ideal) ℓ) (c : Dev nD)

/-- The four argument arrays. -/
abbrev aX : FVec Ideal S32x4x1024 .f32 := m ((c : Thread nD τ).loc main_arg0)
abbrev aW : FVec Ideal S1024x3368 .f32 := m ((c : Thread nD τ).loc main_arg1)
abbrev aB : FVec Ideal S3368 .f32 := m ((c : Thread nD τ).loc main_arg2)
abbrev aC : FVec Ideal S32x512x2x2x64 .f32 := m ((c : Thread nD τ).loc main_arg3)

theorem sees3 : Pipeline.afterTail₀ cfgs (dats m) 0 (V0 m) [hostOps1] c main_v18
    = extractStridedSlice Cert.Reference3Ideal.S32x4x1024 ![0, 0, 0] (zz (aX m c) (aW m c) (aB m c)) Cert.Reference3Ideal.Gen.slices_S32x4x3368_S32x4x1024_0_0_0 := by
  rw [tail3, final3, V_v15, V_v6, V_v13]
  funext i
  obtain ⟨b, s, j, rfl⟩ : ∃ (b : Fin 32) (s : Fin 4) (j : Fin 1024), i = ix3 b s j := ⟨i 0, i 1, i 2, eq_ix3 i⟩
  rw [rows1024, res4]
  exact out3 (aX m c) (aW m c) (aB m c) b s j

theorem sees4 : Pipeline.afterTail₀ cfgs (dats m) 0 (V0 m) [hostOps1] c main_v20
    = extractStridedSlice Cert.Reference3Ideal.S32x4x512 ![0, 0, 1024] (zz (aX m c) (aW m c) (aB m c)) Cert.Reference3Ideal.Gen.slices_S32x4x3368_S32x4x512_0_0_1024 := by
  rw [tail4, final4, V_v15, V_v6, V_v13]
  funext i
  obtain ⟨b, s, j, rfl⟩ : ∃ (b : Fin 32) (s : Fin 4) (j : Fin 512), i = ix3 b s j := ⟨i 0, i 1, i 2, eq_ix3 i⟩
  rw [rows512, res5]
  exact out4 (aX m c) (aW m c) (aB m c) b s j

theorem sees5 : Pipeline.afterTail₀ cfgs (dats m) 0 (V0 m) [hostOps1] c main_v22
    = extractStridedSlice Cert.Reference3Ideal.S32x4x512 ![0, 0, 1536] (zz (aX m c) (aW m c) (aB m c)) Cert.Reference3Ideal.Gen.slices_S32x4x3368_S32x4x512_0_0_1536 := by
  rw [tail5, final5, V_v15, V_v6, V_v13]
  funext i
  obtain ⟨b, s, j, rfl⟩ : ∃ (b : Fin 32) (s : Fin 4) (j : Fin 512), i = ix3 b s j := ⟨i 0, i 1, i 2, eq_ix3 i⟩
  rw [rows512, res6]
  exact out5 (aX m c) (aW m c) (aB m c) b s j

theorem sees6 : Pipeline.afterTail₀ cfgs (dats m) 0 (V0 m) [hostOps1] c main_v24
    = extractStridedSlice Cert.Reference3Ideal.S32x4x512 ![0, 0, 2064] (zz (aX m c) (aW m c) (aB m c)) Cert.Reference3Ideal.Gen.slices_S32x4x3368_S32x4x512_0_0_2064 := by
  rw [tail6, final6, V_v15, V_v6, V_v13]
  funext i
  obtain ⟨b, s, j, rfl⟩ : ∃ (b : Fin 32) (s : Fin 4) (j : Fin 512), i = ix3 b s j := ⟨i 0, i 1, i 2, eq_ix3 i⟩
  rw [rows512, res9]
  exact out6 (aX m c) (aW m c) (aB m c) b s j

theorem sees7 : Pipeline.afterTail₀ cfgs (dats m) 0 (V0 m) [hostOps1] c main_v26
    = kv (aX m c) (aW m c) (aB m c) := by
  rw [tail7, final7, V_v15, V_v6, V_v13]
  funext i
  obtain ⟨b, s, j, rfl⟩ : ∃ (b : Fin 32) (s : Fin 4) (j : Fin 512), i = ix3 b s j := ⟨i 0, i 1, i 2, eq_ix3 i⟩
  rw [rows512, res17]
  exact out7 (aX m c) (aW m c) (aB m c) b s j

theorem sees8 : Pipeline.afterTail₀ cfgs (dats m) 0 (V0 m) [hostOps1] c main_v28
    = win (aX m c) (aW m c) (aB m c) := by
  rw [tail8, final8, V_v15, V_v6, V_v13]
  funext i
  obtain ⟨b, s, j, rfl⟩ : ∃ (b : Fin 32) (s : Fin 4) (j : Fin 256), i = ix3 b s j := ⟨i 0, i 1, i 2, eq_ix3 i⟩
  rw [rows256, res18]
  exact out8 (aX m c) (aW m c) (aB m c) b s j

theorem sees9 : Pipeline.afterTail₀ cfgs (dats m) 0 (V0 m) [hostOps1] c main_v30
    = gates (aX m c) (aW m c) (aB m c) := by
  rw [tail9, final9, V_v15, V_v6, V_v13]
  funext i
  obtain ⟨b, s, j, rfl⟩ : ∃ (b : Fin 32) (s : Fin 4) (j : Fin 128), i = ix3 b s j := ⟨i 0, i 1, i 2, eq_ix3 i⟩
  rw [rows128]
  exact out9 (aX m c) (aW m c) (aB m c) b s j

theorem sees10 : Pipeline.afterTail₀ cfgs (dats m) 0 (V0 m) [hostOps1] c main_v33
    = winAll (aC m c) (win (aX m c) (aW m c) (aB m c)) :=
  (tail10 m c).trans ((congrArg _ (sees8 m c)).trans (winTail_eq _ _))

/-- What the run leaves in the eight results and the four arguments. -/
theorem run_results (ρ : Dev nD → PrngReg) : θ_run (defs (F := Ideal)) (onTc (τ := τ) (main (F := Ideal))) ⟨m, fun _ => 0, ρ⟩ (fun r => ∀ c : Dev nD,
      r.2.mem ((c.tc : Thread nD τ).loc main_v18) = extractStridedSlice Cert.Reference3Ideal.S32x4x1024 ![0, 0, 0] (zz (aX m c) (aW m c) (aB m c)) Cert.Reference3Ideal.Gen.slices_S32x4x3368_S32x4x1024_0_0_0
      ∧ r.2.mem ((c.tc : Thread nD τ).loc main_v20) = extractStridedSlice Cert.Reference3Ideal.S32x4x512 ![0, 0, 1024] (zz (aX m c) (aW m c) (aB m c)) Cert.Reference3Ideal.Gen.slices_S32x4x3368_S32x4x512_0_0_1024
      ∧ r.2.mem ((c.tc : Thread nD τ).loc main_v22) = extractStridedSlice Cert.Reference3Ideal.S32x4x512 ![0, 0, 1536] (zz (aX m c) (aW m c) (aB m c)) Cert.Reference3Ideal.Gen.slices_S32x4x3368_S32x4x512_0_0_1536
      ∧ r.2.mem ((c.tc : Thread nD τ).loc main_v24) = extractStridedSlice Cert.Reference3Ideal.S32x4x512 ![0, 0, 2064] (zz (aX m c) (aW m c) (aB m c)) Cert.Reference3Ideal.Gen.slices_S32x4x3368_S32x4x512_0_0_2064
      ∧ r.2.mem ((c.tc : Thread nD τ).loc main_v26) = kv (aX m c) (aW m c) (aB m c)
      ∧ r.2.mem ((c.tc : Thread nD τ).loc main_v28) = win (aX m c) (aW m c) (aB m c)
      ∧ r.2.mem ((c.tc : Thread nD τ).loc main_v30) = gates (aX m c) (aW m c) (aB m c)
      ∧ r.2.mem ((c.tc : Thread nD τ).loc main_v33) = winAll (aC m c) (win (aX m c) (aW m c) (aB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v18 (Pipeline.mem_restRefs_of main_v18 (by decide) (by decide))).trans (sees3 m c),
    ((h c).2 main_v20 (Pipeline.mem_restRefs_of main_v20 (by decide) (by decide))).trans (sees4 m c),
    ((h c).2 main_v22 (Pipeline.mem_restRefs_of main_v22 (by decide) (by decide))).trans (sees5 m c),
    ((h c).2 main_v24 (Pipeline.mem_restRefs_of main_v24 (by decide) (by decide))).trans (sees6 m c),
    ((h c).2 main_v26 (Pipeline.mem_restRefs_of main_v26 (by decide) (by decide))).trans (sees7 m c),
    ((h c).2 main_v28 (Pipeline.mem_restRefs_of main_v28 (by decide) (by decide))).trans (sees8 m c),
    ((h c).2 main_v30 (Pipeline.mem_restRefs_of main_v30 (by decide) (by decide))).trans (sees9 m c),
    ((h c).2 main_v33 (Pipeline.mem_restRefs_of main_v33 (by decide) (by decide))).trans (sees10 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- The projection call of the sample computes the reference's projection, output by output. -/
theorem algebraic : Cert.algebraic_Kernel3Ideal_Reference3Ideal := by
  intro m ρ m' ρ' _ hag
  refine ⟨_, _, _, _, _, _, _, _, run_results m ρ, (θ_run _ _ _).mono (fun _ h c => ?_) (Cert.Reference3Ideal.Value.run m' ρ')⟩
  obtain ⟨h0, h1, h2, h3, h4, h5, h6, h7, k0, k1, k2, k3⟩ := h c
  obtain ⟨e0, e1, e2, e3⟩ := hag c
  rw [e0, e1, e2] at h0 h1 h2 h3 h4 h5 h6
  rw [e0, e1, e2, e3] at h7
  exact ⟨h0, h1, h2, h3, h4, h5, h6, h7, k0, k1, k2, k3⟩

end Cert.Kernel3Ideal.Proj
-- ==== Proof.FfnSBlock.lean ====
module

public import proofs.«01_k».proof.Proof.Gen.Kernel4Ideal.Frame
public import Idealize.ShloMosaic.Lib.Pipeline.ValueKit
public import Idealize.ShloMosaic.Lib.Pointwise
public import Idealize.ShloMosaic.Lib.Claim
public import proofs.«01_k».proof.Proof.FfnForms

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! What the feed-forward call of the sample computes, as functions of the blocks it reads. -/

/-- The first normalisation's row `r`, before it: scaled input plus the two halves of the mixing product. -/
def pre (x0 : Vec Ideal S1x256x1024 .f32) (x1 x2 : Vec Ideal S1x256x512 .f32) (x3 x4 : Vec Ideal S512x1024 .bf16) (r : Fin 256) (d : Fin 1024) : EReal :=
  resid (x0 (ix3 0 r d)) ((∑ k : Fin 512, x1 (ix3 0 r k) * x3 (ix2 k d)) + ∑ k : Fin 512, x2 (ix3 0 r k) * x4 (ix2 k d))

/-- The first normalised row. -/
def xone (x0 : Vec Ideal S1x256x1024 .f32) (x1 x2 : Vec Ideal S1x256x512 .f32) (x3 x4 : Vec Ideal S512x1024 .bf16) (x5 x6 : Vec Ideal S1x1024 .f32)
    (r : Fin 256) (d : Fin 1024) : EReal :=
  lnrow (pre x0 x1 x2 x3 x4 r) (fun d => x5 (ix2 0 d)) (fun d => x6 (ix2 0 d)) d

/-- The up-projection of a row. -/
def up (X : Fin 256 → Fin 1024 → EReal) (x7 : Vec Ideal S1024x5376 .bf16) (x8 : Vec Ideal S1x5376 .f32) (r : Fin 256) (j : Fin 5376) : EReal :=
  (∑ k : Fin 1024, X r k * x7 (ix2 k j)) + x8 (ix2 0 j)

/-- The up-projection with the cached rows in place: of each group of eight rows, the first four are given. -/
def over (ov : Vec Ideal S1x256x5376 .f32) (U : Fin 256 → Fin 5376 → EReal) (r : Fin 256) (j : Fin 5376) : EReal :=
  if r.val % 8 < 4 then ov (ix3 0 r j) else U r j

/-- The row two before row `r`; before the first row stand carried rows, here zero. -/
def back2 (cr : Vec Ideal S8x5376 .f32) (U : Fin 256 → Fin 5376 → EReal) (r : Fin 256) (j : Fin 5376) : EReal :=
  if h : r.val < 2 then cr (ix2 ⟨6 + r.val, by omega⟩ j) else U ⟨r.val - 2, by omega⟩ j

/-- The row before row `r`. -/
def back1 (cr : Vec Ideal S8x5376 .f32) (U : Fin 256 → Fin 5376 → EReal) (r : Fin 256) (j : Fin 5376) : EReal :=
  if h : r.val < 1 then cr (ix2 ⟨7 + r.val, by omega⟩ j) else U ⟨r.val - 1, by omega⟩ j

/-- The filtered row. -/
def conv (cr : Vec Ideal S8x5376 .f32) (U : Fin 256 → Fin 5376 → EReal) (x9 : Vec Ideal S3x5376 .f32) (x10 : Vec Ideal S1x5376 .f32)
    (r : Fin 256) (j : Fin 5376) : EReal :=
  taps (x10 (ix2 0 j)) (back2 cr U r j) (x9 (ix2 0 j)) (back1 cr U r j) (x9 (ix2 1 j)) (U r j) (x9 (ix2 2 j))

/-- The gated product, 2688 wide. -/
def gated (C : Fin 256 → Fin 5376 → EReal) (r : Fin 256) (e : Fin 2688) : EReal :=
  gate (C r ⟨e.val, by omega⟩) * C r ⟨2688 + e.val, by omega⟩

/-- Columns `o` to `o + 895` of a table of 256 rows. -/
def cols (f : Fin 256 → Fin 5376 → EReal) (o : ℕ) (h : o + 896 ≤ 5376) : FVec Ideal S256x896 .f32 :=
  fun j => f (j 0) ⟨o + (j 1).val, by have := (j 1).isLt; exact lt_of_lt_of_le (Nat.add_lt_add_left this o) h⟩

def gcols (f : Fin 256 → Fin 2688 → EReal) (o : ℕ) (h : o + 896 ≤ 2688) : FVec Ideal S256x896 .f32 :=
  fun j => f (j 0) ⟨o + (j 1).val, by have := (j 1).isLt; exact lt_of_lt_of_le (Nat.add_lt_add_left this o) h⟩

/-- One third of the down-projection. -/
def part (g : Fin 256 → Fin 2688 → EReal) (x11 : Vec Ideal S2688x1024 .bf16) (o : ℕ) (h : o + 896 ≤ 2688) (r : Fin 256) (d : Fin 1024) : EReal :=
  ∑ k : Fin 896, g r ⟨o + k.val, by omega⟩ * x11 (ix2 ⟨o + k.val, by omega⟩ d)

theorem bnd (o : ℕ) {s : Shape} {n : ℕ} (h : o + 896 ≤ n) : o + 896 ≤ n := h

/-- A table of 256 rows and 1024 columns as an array. -/
def arr (f : Fin 256 → Fin 1024 → EReal) (φ : FTy) : FVec Ideal S256x1024 φ := fun j => f (j 0) (j 1)

theorem pay5_eq (x0 x1 x2 x3 x4) : k0_pay5 (F := Ideal) x0 x1 x3 x2 x4 = arr (fun r d => pre x0 x1 x2 x3 x4 r d - mean (pre x0 x1 x2 x3 x4 r)) .f32 := by
  funext j
  idx_vars j
  pointwise [k0_pay5, arr, pre, mean, resid]

theorem pay7_eq (x0 x1 x2 x3 x4 x5 x6) :
    k0_pay7 (F := Ideal) (k0_pay3 x5) (k0_pay4 x6) (k0_pay5 x0 x1 x3 x2 x4) (k0_pay6 x0 x1 x3 x2 x4) = arr (xone x0 x1 x2 x3 x4 x5 x6) .f32 := by
  funext j
  idx_vars j
  pointwise [k0_pay7, k0_pay3, k0_pay4, k0_pay6, arr, xone, lnrow]
  simp only [pay5_eq]
  rfl

theorem pay8_eq (x0 x1 x2 x3 x4 x5 x6) :
    k0_pay8 (F := Ideal) (k0_pay3 x5) (k0_pay4 x6) (k0_pay5 x0 x1 x3 x2 x4) (k0_pay6 x0 x1 x3 x2 x4) = arr (xone x0 x1 x2 x3 x4 x5 x6) .bf16 :=
  pay7_eq x0 x1 x2 x3 x4 x5 x6

theorem up_in {o : ℕ} (h : ∀ a, (![0, o] : Fin 2 → ℕ) a + (![1024, 896] : Fin 2 → ℕ) a ≤ S1024x5376.size a) : o + 896 ≤ 5376 := h 1

/-- The test on one row number: the remainder by eight, made non-negative, is below four. -/
def rowTest (w : BitVec 32) : BitVec 1 :=
  let d : BitVec 32 := Scalar.select (Scalar.cmpi .eq 8#32 0#32) 1#32 8#32
  let q : BitVec 32 := IntOp.remsi ArithUnit.vector w d
  IntOp.cmpi .slt (Scalar.select (IntOp.andi (IntOp.xori (IntOp.cmpi .slt q 0#32) (Scalar.cmpi .slt d 0#32)) (IntOp.cmpi .ne q 0#32)) (IntOp.addi q d) q) 4#32

theorem rowTest_eq : ∀ r : Fin 256, rowTest (BitVec.ofNat 32 r.val) = if r.val % 8 < 4 then 1#1 else 0#1 := by decide +kernel

theorem pay9_read (r : Fin 256) (e : Fin 896) : k0_pay9 (ix2 r e) = rowTest (BitVec.ofNat 32 r.val) := by
  pointwise [k0_pay9, rowTest]

theorem pay18_eq (X : Fin 256 → Fin 1024 → EReal) (x7 : Vec Ideal S1024x5376 .bf16) (x8 : Vec Ideal S1x5376 .f32) (ov : Vec Ideal S1x256x5376 .f32) (o : ℕ) (inb inb' inb'') :
    k0_pay18 (F := Ideal) (arr X .bf16) k0_pay9 (View.ld x7 (Rect.unit ![0, o] ![1024, 896] inb)) (View.ld x8 (Rect.unit ![0, o] ![1, 896] inb'))
        (View.ld ov (Rect.unit ![0, 0, o] ![1, 256, 896] inb''))
      = cols (over ov (up X x7 x8)) o (up_in inb) := by
  funext j
  idx_vars j
  pointwise [k0_pay18, arr, cols, up, over, pay9_read]
  rw [rowTest_eq]
  split <;> rfl

theorem pay12_u (M a b c d w v t) : k0_pay12 (F := Ideal) M (k0_pay11 a b c d w v) t = k0_pay18 (k0_pay8 a b c d) M w v t := rfl
theorem pay14_u (M u t) : k0_pay14 (F := Ideal) M u t = k0_pay12 M u t := shapeCast_self _ _
theorem pay26_u (M X w v t) : k0_pay26 (F := Ideal) M (k0_pay25 X w v) t = k0_pay18 X M w v t := rfl
theorem pay28_u (M u t) : k0_pay28 (F := Ideal) M u t = k0_pay26 M u t := shapeCast_self _ _
theorem pay40_u (M X w v t) : k0_pay40 (F := Ideal) M (k0_pay39 X w v) t = k0_pay18 X M w v t := rfl
theorem pay42_u (M u t) : k0_pay42 (F := Ideal) M u t = k0_pay40 M u t := shapeCast_self _ _
theorem pay32_u (X M w v t) : k0_pay32 (F := Ideal) X M w v t = k0_pay18 X M w v t := rfl
theorem pay46_u (X M w v t) : k0_pay46 (F := Ideal) X M w v t = k0_pay18 X M w v t := rfl
theorem pay20_u (X M w v t) : k0_pay20 (F := Ideal) X M w v t = k0_pay18 X M w v t := shapeCast_self _ _
theorem pay34_u (X M w v t) : k0_pay34 (F := Ideal) X M w v t = k0_pay18 X M w v t := shapeCast_self _ _
theorem pay48_u (X M w v t) : k0_pay48 (F := Ideal) X M w v t = k0_pay18 X M w v t := shapeCast_self _ _
theorem pay13_c (x) : k0_pay13 (F := Ideal) x = x := shapeCast_self _ _
theorem pay19_c (x) : k0_pay19 (F := Ideal) x = x := shapeCast_self _ _
theorem pay27_c (x) : k0_pay27 (F := Ideal) x = x := shapeCast_self _ _
theorem pay33_c (x) : k0_pay33 (F := Ideal) x = x := shapeCast_self _ _
theorem pay41_c (x) : k0_pay41 (F := Ideal) x = x := shapeCast_self _ _
theorem pay47_c (x) : k0_pay47 (F := Ideal) x = x := shapeCast_self _ _
theorem pay53_c (x) : k0_pay53 (F := Ideal) x = x := shapeCast_self _ _

end Cert.Kernel4Ideal.FfnS
-- ==== Proof.FfnSParts.lean ====
module

public import proofs.«01_k».proof.Proof.FfnSBlock
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! The filter's scratch, the gate and the three thirds of the down-projection, on arrays. -/

theorem cov6 (v : View sig .tc .vmem S264x896 .f32) (U : Fin 256 → Fin 5376 → EReal) (xs0 : Vec Ideal S8x5376 .f32) (o : ℕ) (h : o + 896 ≤ 5376) (i1 i2 i3 i4)
    (L : List (View.Piece (Elt Ideal) S264x896 .f32)) :
    v.readCov (⟨Rect.unit ![8, 0] ![256, 896] i1, cols U o h⟩ :: ⟨Rect.unit ![0, 0] ![8, 896] i2, View.ld xs0 (Rect.unit ![0, o] ![8, 896] i3)⟩ :: L)
      (Rect.unit ![6, 0] ![256, 896] i4).toLoadRect = cols (back2 xs0 U) o h := by
  rw [View.readCov_eq_canon']
  funext j
  have e0 : (((Rect.unit (s := S264x896) ![6, 0] ![256, 896] i4).toLoadRect.idx j) 0 : ℕ) = 6 + 1 * (j 0).val := rfl
  have b0 : (j 0).val < 256 := (j 0).isLt
  by_cases hj : (j 0).val < 2
  · rw [View.canon_cons_of_not_mem _ _ (fun hm => by
      have h0 := ((Rect.mem_set_unit (inb := i1)).mp hm 0).1
      have h1 : 8 ≤ (((Rect.unit (s := S264x896) ![6, 0] ![256, 896] i4).toLoadRect.idx j) 0 : ℕ) := h0
      omega)]
    have e : (Rect.unit (s := S264x896) ![6, 0] ![256, 896] i4).toLoadRect.idx j
        = (Rect.unit (s := S264x896) ![0, 0] ![8, 896] i2).emb (ix2 ⟨6 + (j 0).val, by show _ < 8; omega⟩ (j 1)) := by
      funext a; apply Fin.ext; fin_cases a
      · show 6 + 1 * (j 0).val = 0 + 1 * (6 + (j 0).val); omega
      · rfl
    rw [e, View.canon_cons_emb]
    simp only [cols, back2]
    rw [dif_pos (show (j 0).val < 2 from hj)]
    refine congrArg xs0 ?_
    funext a; apply Fin.ext; fin_cases a
    · show 0 + 1 * (6 + (j 0).val) = 6 + (j 0).val; omega
    · show o + 1 * (j 1).val = o + (j 1).val; omega
  · have e : (Rect.unit (s := S264x896) ![6, 0] ![256, 896] i4).toLoadRect.idx j
        = (Rect.unit (s := S264x896) ![8, 0] ![256, 896] i1).emb (ix2 ⟨(j 0).val - 2, by show _ < 256; omega⟩ (j 1)) := by
      funext a; apply Fin.ext; fin_cases a
      · show 6 + 1 * (j 0).val = 8 + 1 * ((j 0).val - 2); omega
      · rfl
    rw [e, View.canon_cons_emb]
    simp only [cols, back2]
    rw [dif_neg (show ¬ (j 0).val < 2 from hj)]
    rfl

theorem cov7 (v : View sig .tc .vmem S264x896 .f32) (U : Fin 256 → Fin 5376 → EReal) (xs0 : Vec Ideal S8x5376 .f32) (o : ℕ) (h : o + 896 ≤ 5376) (i1 i2 i3 i4)
    (L : List (View.Piece (Elt Ideal) S264x896 .f32)) :
    v.readCov (⟨Rect.unit ![8, 0] ![256, 896] i1, cols U o h⟩ :: ⟨Rect.unit ![0, 0] ![8, 896] i2, View.ld xs0 (Rect.unit ![0, o] ![8, 896] i3)⟩ :: L)
      (Rect.unit ![7, 0] ![256, 896] i4).toLoadRect = cols (back1 xs0 U) o h := by
  rw [View.readCov_eq_canon']
  funext j
  have e0 : (((Rect.unit (s := S264x896) ![7, 0] ![256, 896] i4).toLoadRect.idx j) 0 : ℕ) = 7 + 1 * (j 0).val := rfl
  have b0 : (j 0).val < 256 := (j 0).isLt
  by_cases hj : (j 0).val < 1
  · rw [View.canon_cons_of_not_mem _ _ (fun hm => by
      have h0 := ((Rect.mem_set_unit (inb := i1)).mp hm 0).1
      have h1 : 8 ≤ (((Rect.unit (s := S264x896) ![7, 0] ![256, 896] i4).toLoadRect.idx j) 0 : ℕ) := h0
      omega)]
    have e : (Rect.unit (s := S264x896) ![7, 0] ![256, 896] i4).toLoadRect.idx j
        = (Rect.unit (s := S264x896) ![0, 0] ![8, 896] i2).emb (ix2 ⟨7 + (j 0).val, by show _ < 8; omega⟩ (j 1)) := by
      funext a; apply Fin.ext; fin_cases a
      · show 7 + 1 * (j 0).val = 0 + 1 * (7 + (j 0).val); omega
      · rfl
    rw [e, View.canon_cons_emb]
    simp only [cols, back1]
    rw [dif_pos (show (j 0).val < 1 from hj)]
    refine congrArg xs0 ?_
    funext a; apply Fin.ext; fin_cases a
    · show 0 + 1 * (7 + (j 0).val) = 7 + (j 0).val; omega
    · show o + 1 * (j 1).val = o + (j 1).val; omega
  · have e : (Rect.unit (s := S264x896) ![7, 0] ![256, 896] i4).toLoadRect.idx j
        = (Rect.unit (s := S264x896) ![8, 0] ![256, 896] i1).emb (ix2 ⟨(j 0).val - 1, by show _ < 256; omega⟩ (j 1)) := by
      funext a; apply Fin.ext; fin_cases a
      · show 7 + 1 * (j 0).val = 8 + 1 * ((j 0).val - 1); omega
      · rfl
    rw [e, View.canon_cons_emb]
    simp only [cols, back1]
    rw [dif_neg (show ¬ (j 0).val < 1 from hj)]
    rfl

/-- Three taps and a bias, on arrays. -/
def tapsA (b : FVec Ideal S1x896 .f32) (s : FVec Ideal S256x896 .f32) (c0 : FVec Ideal S1x896 .f32) (t : FVec Ideal S256x896 .f32) (c1 : FVec Ideal S1x896 .f32)
    (u : FVec Ideal S256x896 .f32) (c2 : FVec Ideal S1x896 .f32) : FVec Ideal S256x896 .f32 :=
  fun j => taps (b (ix2 0 (j 1))) (s j) (c0 (ix2 0 (j 1))) (t j) (c1 (ix2 0 (j 1))) (u j) (c2 (ix2 0 (j 1)))

/-- The gate of one array times another. -/
def gateA (g u : FVec Ideal S256x896 .f32) : FVec Ideal S256x896 .f32 := fun j => gate (g j) * u j

/-- A third of the down-projection added to what is there. -/
def downA (acc : FVec Ideal S256x1024 .f32) (G : FVec Ideal S256x896 .f32) (w : FVec Ideal S896x1024 .bf16) : FVec Ideal S256x1024 .f32 :=
  fun j => acc j + ∑ k : Fin 896, G (ix2 (j 0) k) * w (ix2 k (j 1))

theorem pay15_t (M u v b s c0 t c1 c2) : k0_pay15 (F := Ideal) M u v b s c0 t c1 c2 = tapsA b s c0 t c1 (k0_pay12 M u v) c2 := by
  funext j; idx_vars j; pointwise [k0_pay15, tapsA, taps]
theorem pay29_t (M u v b s c0 t c1 c2) : k0_pay29 (F := Ideal) M u v b s c0 t c1 c2 = tapsA b s c0 t c1 (k0_pay26 M u v) c2 := by
  funext j; idx_vars j; pointwise [k0_pay29, tapsA, taps]
theorem pay43_t (M u v b s c0 t c1 c2) : k0_pay43 (F := Ideal) M u v b s c0 t c1 c2 = tapsA b s c0 t c1 (k0_pay40 M u v) c2 := by
  funext j; idx_vars j; pointwise [k0_pay43, tapsA, taps]
theorem pay24_t (acc g u b s c0 t c1 c2 w) : k0_pay24 (F := Ideal) acc g u (k0_pay21 b s c0 t c1) c2 w = downA acc (gateA g (tapsA b s c0 t c1 u c2)) w := by
  funext j; idx_vars j; pointwise [k0_pay24, k0_pay21, tapsA, taps, gateA, gate, downA]
theorem pay38_t (acc g u b s c0 t c1 c2 w) : k0_pay38 (F := Ideal) acc g u (k0_pay35 b s c0 t c1) c2 w = downA acc (gateA g (tapsA b s c0 t c1 u c2)) w := by
  funext j; idx_vars j; pointwise [k0_pay38, k0_pay35, tapsA, taps, gateA, gate, downA]

/-- The row before the second normalisation, on arrays: the residual plus the down-projection's three thirds and its bias. -/
def lastA (X acc : FVec Ideal S256x1024 .f32) (bd : FVec Ideal S1x1024 .f32) : FVec Ideal S256x1024 .f32 := fun j => resid (X j) (acc j + bd (ix2 0 (j 1)))

theorem pay52_t (X acc g u b s c0 t c1 c2 w bd) :
    k0_pay52 (F := Ideal) X acc g u (k0_pay49 b s c0 t c1) c2 w bd = lastA X (downA acc (gateA g (tapsA b s c0 t c1 u c2)) w) bd := by
  funext j; idx_vars j; pointwise [k0_pay52, k0_pay49, tapsA, taps, gateA, gate, downA, lastA, resid]

theorem tapsA_eq (cr : Vec Ideal S8x5376 .f32) (U : Fin 256 → Fin 5376 → EReal) (x9 : Vec Ideal S3x5376 .f32) (x10 : Vec Ideal S1x5376 .f32) (o : ℕ) (h : o + 896 ≤ 5376) (i0 i1 i2 i3) :
    tapsA (View.ld x10 (Rect.unit ![0, o] ![1, 896] i0)) (cols (back2 cr U) o h) (View.ld x9 (Rect.unit ![0, o] ![1, 896] i1)) (cols (back1 cr U) o h)
      (View.ld x9 (Rect.unit ![1, o] ![1, 896] i2)) (cols U o h) (View.ld x9 (Rect.unit ![2, o] ![1, 896] i3)) = cols (conv cr U x9 x10) o h := by
  funext j; idx_vars j
  pointwise [tapsA, cols, conv]
  blk_ext

theorem gateA_eq (C : Fin 256 → Fin 5376 → EReal) (o o' : ℕ) (h h') (ho : o' = 2688 + o) (h2 : o + 896 ≤ 2688) :
    gateA (cols C o h) (cols C o' h') = gcols (gated C) o h2 := by
  subst ho
  funext j
  simp only [gateA, cols, gcols, gated, Nat.add_assoc]

theorem gateA_0 (C : Fin 256 → Fin 5376 → EReal) (h h') : gateA (cols C 0 h) (cols C 2688 h') = gcols (gated C) 0 (by decide) := gateA_eq C 0 2688 h h' rfl _
theorem gateA_1 (C : Fin 256 → Fin 5376 → EReal) (h h') : gateA (cols C 896 h) (cols C 3584 h') = gcols (gated C) 896 (by decide) := gateA_eq C 896 3584 h h' rfl _
theorem gateA_2 (C : Fin 256 → Fin 5376 → EReal) (h h') : gateA (cols C 1792 h) (cols C 4480 h') = gcols (gated C) 1792 (by decide) := gateA_eq C 1792 4480 h h' rfl _

theorem downA_eq (f : Fin 256 → Fin 1024 → EReal) (g : Fin 256 → Fin 2688 → EReal) (x11 : Vec Ideal S2688x1024 .bf16) (o : ℕ) (h : o + 896 ≤ 2688) (i0) :
    downA (arr f .f32) (gcols g o h) (View.ld x11 (Rect.unit ![o, 0] ![896, 1024] i0)) = arr (fun r d => f r d + part g x11 o h r d) .f32 := by
  funext j; idx_vars j
  pointwise [downA, arr, gcols, part]
  blk_ext

theorem pay10_eq : k0_pay10 (F := Ideal) = arr (fun _ _ => 0) .f32 := by
  funext j; idx_vars j
  pointwise [k0_pay10, arr]

theorem pay1_eq (f : Fin 256 → Fin 1024 → EReal) (w b) :
    k0_pay1 (F := Ideal) (arr f .f32) w b = fun i : S1x256x1024.Idx => lnrow (f (i 1)) (fun d => w (ix2 0 d)) (fun d => b (ix2 0 d)) (i 2) := by
  funext j; idx_vars j
  pointwise [k0_pay1, arr, lnrow, mean]

/-- The row before the second normalisation, from the first normalised rows and the gated product. -/
def fin (X : Fin 256 → Fin 1024 → EReal) (G : Fin 256 → Fin 2688 → EReal) (x11 : Vec Ideal S2688x1024 .bf16) (x12 : Vec Ideal S1x1024 .f32) (r : Fin 256) (d : Fin 1024) : EReal :=
  resid (X r d) ((((0 + part G x11 0 (by decide) r d) + part G x11 896 (by decide) r d) + part G x11 1792 (by decide) r d) + x12 (ix2 0 d))

theorem lastA_eq (X G x11 x12) :
    lastA (arr X .f32) (arr (fun r d => ((0 + part G x11 0 (by decide) r d) + part G x11 896 (by decide) r d) + part G x11 1792 (by decide) r d) .f32) x12 = arr (fin X G x11 x12) .f32 := rfl

/-- The carried rows before the first row. -/
def noRows : Vec Ideal S8x5376 .f32 := fun _ => 0

theorem pay2_eq : k0_pay2 (F := Ideal) = noRows := by
  funext j; idx_vars j; pointwise [k0_pay2, noRows]

theorem covZ (v : View sig .tc .vmem S8x5376 .f32) (r : Rect S8x5376) (i) :
    v.readCov [⟨Rect.unit ![0, 0] ![8, 5376] i, noRows⟩] r.toLoadRect = View.ld noRows r :=
  View.readCov_fill v i noRows [] r (by intro a; fin_cases a <;> rfl)

/-! The rows handed out: all of them. -/

theorem pay17_r (M u v) (a b : Fin 1) (r : Fin 256) (e : Fin 896) : k0_pay17 (F := Ideal) M u v (ix4 a b r e) = k0_pay12 M u v (ix2 r e) := by
  pointwise [k0_pay17]
theorem pay31_r (M u v) (a b : Fin 1) (r : Fin 256) (e : Fin 896) : k0_pay31 (F := Ideal) M u v (ix4 a b r e) = k0_pay26 M u v (ix2 r e) := by
  pointwise [k0_pay31]
theorem pay45_r (M u v) (a b : Fin 1) (r : Fin 256) (e : Fin 896) : k0_pay45 (F := Ideal) M u v (ix4 a b r e) = k0_pay40 M u v (ix2 r e) := by
  pointwise [k0_pay45]
theorem pay23_r (u) (a b : Fin 1) (r : Fin 256) (e : Fin 896) : k0_pay23 (F := Ideal) u (ix4 a b r e) = u (ix2 r e) := by
  pointwise [k0_pay23]
theorem pay37_r (u) (a b : Fin 1) (r : Fin 256) (e : Fin 896) : k0_pay37 (F := Ideal) u (ix4 a b r e) = u (ix2 r e) := by
  pointwise [k0_pay37]
theorem pay51_r (u) (a b : Fin 1) (r : Fin 256) (e : Fin 896) : k0_pay51 (F := Ideal) u (ix4 a b r e) = u (ix2 r e) := by
  pointwise [k0_pay51]

theorem z2 : (![0, 0] : Fin 2 → ℕ) = fun _ => 0 := by funext a; fin_cases a <;> rfl
theorem z3 : (![0, 0, 0] : Fin 3 → ℕ) = fun _ => 0 := by funext a; fin_cases a <;> rfl

theorem ld_a (x : Vec Ideal S1x256x1024 .f32) (i) : View.ld x (Rect.unit ![0, 0, 0] ![1, 256, 1024] i) = x := View.ld_unit_zero z3 i x
theorem ld_b (x : Vec Ideal S1x256x512 .f32) (i) : View.ld x (Rect.unit ![0, 0, 0] ![1, 256, 512] i) = x := View.ld_unit_zero z3 i x
theorem ld_c (x : Vec Ideal S512x1024 .bf16) (i) : View.ld x (Rect.unit ![0, 0] ![512, 1024] i) = x := View.ld_unit_zero z2 i x
theorem ld_d (x : Vec Ideal S1x1024 .f32) (i) : View.ld x (Rect.unit ![0, 0] ![1, 1024] i) = x := View.ld_unit_zero z2 i x

end Cert.Kernel4Ideal.FfnS
-- ==== Proof.FfnSForms.lean ====
module

public import proofs.«01_k».proof.Proof.FfnForms

@[expose] public section

set_option maxRecDepth 16384

noncomputable section

namespace Cert.Ffn

open Idealize.ShloMosaic

/-- What the feed-forward part of the sample is given: four new tokens `x` of each of 32 sequences, the two mixing results
    of eight rows of which the last four are the new tokens', the two cached rows of the up-projection, and the weights and biases. -/
structure SArgs where
  x : Fin 32 → Fin 4 → Fin 1024 → EReal
  mm : Fin 32 → Fin 8 → Fin 512 → EReal
  mn : Fin 32 → Fin 8 → Fin 512 → EReal
  st : Fin 32 → Fin 2 → Fin 5376 → EReal
  wo : Fin 1024 → Fin 1024 → EReal
  aw : Fin 1024 → EReal
  ab : Fin 1024 → EReal
  wu : Fin 1024 → Fin 5376 → EReal
  bu : Fin 5376 → EReal
  cw : Fin 3 → Fin 5376 → EReal
  cb : Fin 5376 → EReal
  wd : Fin 2688 → Fin 1024 → EReal
  bd : Fin 1024 → EReal
  zw : Fin 1024 → EReal
  zb : Fin 1024 → EReal

namespace SArgs

variable (a : SArgs)

/-- The row before the first normalisation. -/
def gpre (b : Fin 32) (s : Fin 4) (d : Fin 1024) : EReal :=
  resid (a.x b s d) ((∑ k : Fin 512, a.mm b ⟨4 + s.val, by omega⟩ k * a.wo ⟨k.val, by omega⟩ d)
    + ∑ k : Fin 512, a.mn b ⟨4 + s.val, by omega⟩ k * a.wo ⟨512 + k.val, by omega⟩ d)

/-- The first normalised row. -/
def gx (b : Fin 32) (s : Fin 4) (d : Fin 1024) : EReal := lnrow (a.gpre b s) a.aw a.ab d

/-- The up-projection. -/
def gup (b : Fin 32) (s : Fin 4) (j : Fin 5376) : EReal := (∑ k : Fin 1024, a.gx b s k * a.wu k j) + a.bu j

/-- The two cached rows and the four new ones behind them. -/
def full (b : Fin 32) (q : Fin 6) (j : Fin 5376) : EReal := if h : q.val < 2 then a.st b ⟨q.val, h⟩ j else a.gup b ⟨q.val - 2, by omega⟩ j

/-- The filter along the sequence. -/
def gconv (b : Fin 32) (s : Fin 4) (j : Fin 5376) : EReal :=
  taps (a.cb j) (a.full b ⟨s.val, by omega⟩ j) (a.cw 0 j) (a.full b ⟨1 + s.val, by omega⟩ j) (a.cw 1 j) (a.full b ⟨2 + s.val, by omega⟩ j) (a.cw 2 j)

/-- The gated product. -/
def ggated (b : Fin 32) (s : Fin 4) (e : Fin 2688) : EReal := gate (a.gconv b s ⟨e.val, by omega⟩) * a.gconv b s ⟨2688 + e.val, by omega⟩

/-- The row before the second normalisation. -/
def gfin (b : Fin 32) (s : Fin 4) (d : Fin 1024) : EReal :=
  resid (a.gx b s d) ((∑ e : Fin 2688, a.ggated b s e * a.wd e d) + a.bd d)

/-- The layer's output row. -/
def gy (b : Fin 32) (s : Fin 4) (d : Fin 1024) : EReal := lnrow (a.gfin b s) a.zw a.zb d

end SArgs

end Cert.Ffn
-- ==== Proof.FfnSArr.lean ====
module

public import proofs.«01_k».proof.Proof.FfnSParts
public import proofs.«01_k».proof.Proof.FfnSForms
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-! The blocks the one grid point reads, in terms of the arguments. -/

theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0, 0]
    ∧ win0_17.index t = ![0, 0, 0, 0] :=
  (by decide +kernel : ∀ t : Fin grid0.N, _)

abbrev arr0 (c : Dev nD) : FVec Ideal S32x4x1024 .f32 := m ((c : Thread nD τ).loc main_arg0)
abbrev arr1 (c : Dev nD) : FVec Ideal S32x8x512 .f32 := m ((c : Thread nD τ).loc main_arg1)
abbrev arr2 (c : Dev nD) : FVec Ideal S32x8x512 .f32 := m ((c : Thread nD τ).loc main_arg2)
abbrev arr3 (c : Dev nD) : FVec Ideal S32x2x5376 .f32 := m ((c : Thread nD τ).loc main_arg3)
abbrev arr4 (c : Dev nD) : FVec Ideal S1024x1024 .f32 := m ((c : Thread nD τ).loc main_arg4)
abbrev arr5 (c : Dev nD) : FVec Ideal S1024 .f32 := m ((c : Thread nD τ).loc main_arg5)
abbrev arr6 (c : Dev nD) : FVec Ideal S1024 .f32 := m ((c : Thread nD τ).loc main_arg6)
abbrev arr7 (c : Dev nD) : FVec Ideal S1024x5376 .f32 := m ((c : Thread nD τ).loc main_arg7)
abbrev arr8 (c : Dev nD) : FVec Ideal S5376 .f32 := m ((c : Thread nD τ).loc main_arg8)
abbrev arr9 (c : Dev nD) : FVec Ideal S3x5376 .f32 := m ((c : Thread nD τ).loc main_arg9)
abbrev arr10 (c : Dev nD) : FVec Ideal S5376 .f32 := m ((c : Thread nD τ).loc main_arg10)
abbrev arr11 (c : Dev nD) : FVec Ideal S2688x1024 .f32 := m ((c : Thread nD τ).loc main_arg11)
abbrev arr12 (c : Dev nD) : FVec Ideal S1024 .f32 := m ((c : Thread nD τ).loc main_arg12)
abbrev arr13 (c : Dev nD) : FVec Ideal S1024 .f32 := m ((c : Thread nD τ).loc main_arg13)
abbrev arr14 (c : Dev nD) : FVec Ideal S1024 .f32 := m ((c : Thread nD τ).loc main_arg14)

/-- The arguments, entry by entry. -/
def args (c : Dev nD) : SArgs where
  x p q r := arr0 m c (ix3 p q r)
  mm p q r := arr1 m c (ix3 p q r)
  mn p q r := arr2 m c (ix3 p q r)
  st p q r := arr3 m c (ix3 p q r)
  wo p q := arr4 m c (ix2 p q)
  aw p := arr5 m c (ix1 p)
  ab p := arr6 m c (ix1 p)
  wu p q := arr7 m c (ix2 p q)
  bu p := arr8 m c (ix1 p)
  cw p q := arr9 m c (ix2 p q)
  cb p := arr10 m c (ix1 p)
  wd p q := arr11 m c (ix2 p q)
  bd p := arr12 m c (ix1 p)
  zw p := arr13 m c (ix1 p)
  zb p := arr14 m c (ix1 p)

/-- The input with four rows of zeros before each sequence's four new ones, flattened. -/
def xArr (X : FVec Ideal S32x4x1024 .f32) : FVec Ideal S1x256x1024 .f32 :=
  shapeCast S1x256x1024 (pad S32x8x1024 ![0, 4, 0] ![0, 0, 0] ![0, 0, 0] X (sitofp (F := Ideal) .f32 (constantI S_ 32 0#32)) pads_S32x4x1024_S32x8x1024_000_400_000 h_S_) shapeCasts_S32x8x1024_S1x256x1024

/-- Two rows of zeros, the two cached rows and four more rows of zeros. -/
def oParts (S : FVec Ideal S32x2x5376 .f32) : List ((s : Shape) × (s.Idx → EReal)) :=
  [⟨S32x2x5376, broadcastInDim S32x2x5376 ![] bcast_S_S32x2x5376 (constant (F := Ideal) S_ .f32 0x00000000#32)⟩, ⟨S32x2x5376, S⟩,
    ⟨S32x4x5376, broadcastInDim S32x4x5376 ![] bcast_S_S32x4x5376 (constant (F := Ideal) S_ .f32 0x00000000#32)⟩]

/-- The rows the call is given in place of its own, flattened. -/
def oArr (S : FVec Ideal S32x2x5376 .f32) : FVec Ideal S1x256x5376 .f32 :=
  shapeCast S1x256x5376 (concatenate S32x8x5376 1 (oParts S) concatenates_S32x2x5376_S32x2x5376_S32x4x5376_S32x8x5376_d1) shapeCasts_S32x8x5376_S1x256x5376

set_option maxHeartbeats 2000000 in
theorem V_v1 (c : Dev nD) : V m c main_v1 = truncf .bf16 (extractStridedSlice S512x1024 ![0, 0] (arr4 m c) slices_S1024x1024_S512x1024_0_0 : FVec Ideal S512x1024 .f32) bitsLt_bf16_f32 := by
  simp only [V, V0, hostOps0, hostOps0_1, hostOps0_2, List.flatten_cons, List.flatten_nil, List.append_nil, List.cons_append, List.nil_append]
  after_results
  all_goals rfl
set_option maxHeartbeats 2000000 in
theorem V_v3 (c : Dev nD) : V m c main_v3 = truncf .bf16 (extractStridedSlice S512x1024 ![512, 0] (arr4 m c) slices_S1024x1024_S512x1024_512_0 : FVec Ideal S512x1024 .f32) bitsLt_bf16_f32 := by
  simp only [V, V0, hostOps0, hostOps0_1, hostOps0_2, List.flatten_cons, List.flatten_nil, List.append_nil, List.cons_append, List.nil_append]
  after_results
  all_goals rfl
set_option maxHeartbeats 2000000 in
theorem V_v4 (c : Dev nD) : V m c main_v4 = shapeCast S1x1024 (arr5 m c) shapeCasts_S1024_S1x1024 := by
  simp only [V, V0, hostOps0, hostOps0_1, hostOps0_2, List.flatten_cons, List.flatten_nil, List.append_nil, List.cons_append, List.nil_append]
  after_results
  all_goals rfl
set_option maxHeartbeats 2000000 in
theorem V_v5 (c : Dev nD) : V m c main_v5 = shapeCast S1x1024 (arr6 m c) shapeCasts_S1024_S1x1024 := by
  simp only [V, V0, hostOps0, hostOps0_1, hostOps0_2, List.flatten_cons, List.flatten_nil, List.append_nil, List.cons_append, List.nil_append]
  after_results
  all_goals rfl
set_option maxHeartbeats 2000000 in
theorem V_v6 (c : Dev nD) : V m c main_v6 = truncf .bf16 (arr7 m c) bitsLt_bf16_f32 := by
  simp only [V, V0, hostOps0, hostOps0_1, hostOps0_2, List.flatten_cons, List.flatten_nil, List.append_nil, List.cons_append, List.nil_append]
  after_results
  all_goals rfl
set_option maxHeartbeats 2000000 in
theorem V_v7 (c : Dev nD) : V m c main_v7 = shapeCast S1x5376 (arr8 m c) shapeCasts_S5376_S1x5376 := by
  simp only [V, V0, hostOps0, hostOps0_1, hostOps0_2, List.flatten_cons, List.flatten_nil, List.append_nil, List.cons_append, List.nil_append]
  after_results
  all_goals rfl
set_option maxHeartbeats 2000000 in
theorem V_v8 (c : Dev nD) : V m c main_v8 = shapeCast S1x5376 (arr10 m c) shapeCasts_S5376_S1x5376 := by
  simp only [V, V0, hostOps0, hostOps0_1, hostOps0_2, List.flatten_cons, List.flatten_nil, List.append_nil, List.cons_append, List.nil_append]
  after_results
  all_goals rfl
set_option maxHeartbeats 2000000 in
theorem V_v9 (c : Dev nD) : V m c main_v9 = truncf .bf16 (arr11 m c) bitsLt_bf16_f32 := by
  simp only [V, V0, hostOps0, hostOps0_1, hostOps0_2, List.flatten_cons, List.flatten_nil, List.append_nil, List.cons_append, List.nil_append]
  after_results
  all_goals rfl
set_option maxHeartbeats 2000000 in
theorem V_v10 (c : Dev nD) : V m c main_v10 = shapeCast S1x1024 (arr12 m c) shapeCasts_S1024_S1x1024 := by
  simp only [V, V0, hostOps0, hostOps0_1, hostOps0_2, List.flatten_cons, List.flatten_nil, List.append_nil, List.cons_append, List.nil_append]
  after_results
  all_goals rfl
set_option maxHeartbeats 2000000 in
theorem V_v11 (c : Dev nD) : V m c main_v11 = shapeCast S1x1024 (arr13 m c) shapeCasts_S1024_S1x1024 := by
  simp only [V, V0, hostOps0, hostOps0_1, hostOps0_2, List.flatten_cons, List.flatten_nil, List.append_nil, List.cons_append, List.nil_append]
  after_results
  all_goals rfl
set_option maxHeartbeats 2000000 in
theorem V_v12 (c : Dev nD) : V m c main_v12 = shapeCast S1x1024 (arr14 m c) shapeCasts_S1024_S1x1024 := by
  simp only [V, V0, hostOps0, hostOps0_1, hostOps0_2, List.flatten_cons, List.flatten_nil, List.append_nil, List.cons_append, List.nil_append]
  after_results
  all_goals rfl
set_option maxHeartbeats 2000000 in
theorem V_arg9 (c : Dev nD) : V m c main_arg9 = arr9 m c := by
  simp only [V, V0, hostOps0, hostOps0_1, hostOps0_2, List.flatten_cons, List.flatten_nil, List.append_nil, List.cons_append, List.nil_append]
  after_results
  all_goals rfl
set_option maxHeartbeats 2000000 in
theorem V_v17 (c : Dev nD) : V m c main_v17 = xArr (arr0 m c) := by
  simp only [V, V0, hostOps0, hostOps0_1, hostOps0_2, List.flatten_cons, List.flatten_nil, List.append_nil, List.cons_append, List.nil_append]
  after_results
  all_goals rfl
set_option maxHeartbeats 2000000 in
theorem V_v18 (c : Dev nD) : V m c main_v18 = shapeCast S1x256x512 (arr1 m c) shapeCasts_S32x8x512_S1x256x512 := by
  simp only [V, V0, hostOps0, hostOps0_1, hostOps0_2, List.flatten_cons, List.flatten_nil, List.append_nil, List.cons_append, List.nil_append]
  after_results
  all_goals rfl
set_option maxHeartbeats 2000000 in
theorem V_v19 (c : Dev nD) : V m c main_v19 = shapeCast S1x256x512 (arr2 m c) shapeCasts_S32x8x512_S1x256x512 := by
  simp only [V, V0, hostOps0, hostOps0_1, hostOps0_2, List.flatten_cons, List.flatten_nil, List.append_nil, List.cons_append, List.nil_append]
  after_results
  all_goals rfl
set_option maxHeartbeats 2000000 in
theorem V_v20 (c : Dev nD) : V m c main_v20 = oArr (arr3 m c) := by
  simp only [V, V0, hostOps0, hostOps0_1, hostOps0_2, List.flatten_cons, List.flatten_nil, List.append_nil, List.cons_append, List.nil_append]
  after_results
  all_goals rfl

end Cert.Kernel4Ideal.FfnS
-- ==== Proof.FfnSReads.lean ====
module

public import proofs.«01_k».proof.Proof.FfnSArr
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-! What the blocks hold, entry by entry. -/

/-- Behind the four rows of zeros stand the sequence's new tokens. -/
theorem xArr_read (X : FVec Ideal S32x4x1024 .f32) (b : Fin 32) (s : Fin 4) (k : Fin 1024) :
    xArr X (ix3 0 (⟨b.val * 8 + (4 + s.val), by omega⟩ : Fin 256) k) = X (ix3 b s k) := by
  have e : ∀ P : FVec Ideal S32x8x1024 .f32, shapeCast S1x256x1024 P shapeCasts_S32x8x1024_S1x256x1024 (ix3 0 (⟨b.val * 8 + (4 + s.val), by omega⟩ : Fin 256) k)
      = P (ix3 b (⟨4 + s.val, by omega⟩ : Fin 8) k) := by
    intro P
    pointwise
    blk_ext
  refine (e _).trans ?_
  refine pad_apply_of_inside _ _ _ _ _ _ _ _ (ix3 b s k) fun a => ?_
  match a with
  | ⟨0, _⟩ => show b.val = 0 + b.val * (0 + 1); omega
  | ⟨1, _⟩ => show 4 + s.val = 4 + s.val * (0 + 1); omega
  | ⟨2, _⟩ => show k.val = 0 + k.val * (0 + 1); omega

/-- A row of a flattened mixing result. -/
theorem mix_read (Y : FVec Ideal S32x8x512 .f32) (b : Fin 32) (s : Fin 4) (k : Fin 512) :
    shapeCast S1x256x512 Y shapeCasts_S32x8x512_S1x256x512 (ix3 0 (⟨b.val * 8 + (4 + s.val), by omega⟩ : Fin 256) k) = Y (ix3 b (⟨4 + s.val, by omega⟩ : Fin 8) k) := by
  pointwise
  blk_ext

/-- Off the middle axis, two indices over the same outer coordinates agree. -/
theorem off_axis {n l v w : Nat} (b : Fin n) (s : Fin l) (q : Fin v) (j : Fin w) (a : Fin 3) (ha : a ≠ 1) :
    ((ix3 b s j : (⟨3, ![n, l, w]⟩ : Shape).Idx) a).val = ((ix3 b q j : (⟨3, ![n, v, w]⟩ : Shape).Idx) a).val := by
  match a with
  | ⟨0, _⟩ => rfl
  | ⟨1, _⟩ => exact absurd rfl ha
  | ⟨2, _⟩ => rfl

/-- The third and fourth of each eight rows are the cached ones. -/
theorem oArr_read (S : FVec Ideal S32x2x5376 .f32) (b : Fin 32) (q : Fin 2) (j : Fin 5376) :
    oArr S (ix3 0 (⟨b.val * 8 + (2 + q.val), by omega⟩ : Fin 256) j) = S (ix3 b q j) := by
  have e : ∀ P : FVec Ideal S32x8x5376 .f32, shapeCast S1x256x5376 P shapeCasts_S32x8x5376_S1x256x5376 (ix3 0 (⟨b.val * 8 + (2 + q.val), by omega⟩ : Fin 256) j)
      = P (ix3 b (⟨2 + q.val, by omega⟩ : Fin 8) j) := by
    intro P
    pointwise
    blk_ext
  refine (e _).trans ?_
  exact concatenate_apply_piece (t := S32x8x5376) 1 (oParts S) concatenates_S32x2x5376_S32x2x5376_S32x4x5376_S32x8x5376_d1
    (ix3 b (⟨2 + q.val, by omega⟩ : Fin 8) j) 1 (by show 1 < 3; decide) S32x2x5376 _ rfl rfl 2 rfl
    (ix3 b q j) (off_axis _ _ _ _) (by show 2 + q.val = 2 + q.val; rfl)

variable (c : Dev nD) (t : Fin cfg0.N)

theorem blk0 (b : Fin 32) (s : Fin 4) (k : Fin 1024) : (iblk m c 0 t : Vec Ideal S1x256x1024 .f32) (ix3 0 (⟨b.val * 8 + (4 + s.val), by omega⟩ : Fin 256) k) = (args m c).x b s k := by
  have e : (iblk m c 0 t : Vec Ideal S1x256x1024 .f32) (ix3 0 (⟨b.val * 8 + (4 + s.val), by omega⟩ : Fin 256) k) = V m c main_v17 (ix3 0 (⟨b.val * 8 + (4 + s.val), by omega⟩ : Fin 256) k) := by blk_point [iblk, idx t]
  rw [e, V_v17]
  exact xArr_read _ b s k
theorem blk1 (b : Fin 32) (s : Fin 4) (k : Fin 512) : (iblk m c 1 t : Vec Ideal S1x256x512 .f32) (ix3 0 (⟨b.val * 8 + (4 + s.val), by omega⟩ : Fin 256) k) = (args m c).mm b ⟨4 + s.val, by omega⟩ k := by
  have e : (iblk m c 1 t : Vec Ideal S1x256x512 .f32) (ix3 0 (⟨b.val * 8 + (4 + s.val), by omega⟩ : Fin 256) k) = V m c main_v18 (ix3 0 (⟨b.val * 8 + (4 + s.val), by omega⟩ : Fin 256) k) := by blk_point [iblk, idx t]
  rw [e, V_v18]
  exact mix_read _ b s k
theorem blk2 (b : Fin 32) (s : Fin 4) (k : Fin 512) : (iblk m c 2 t : Vec Ideal S1x256x512 .f32) (ix3 0 (⟨b.val * 8 + (4 + s.val), by omega⟩ : Fin 256) k) = (args m c).mn b ⟨4 + s.val, by omega⟩ k := by
  have e : (iblk m c 2 t : Vec Ideal S1x256x512 .f32) (ix3 0 (⟨b.val * 8 + (4 + s.val), by omega⟩ : Fin 256) k) = V m c main_v19 (ix3 0 (⟨b.val * 8 + (4 + s.val), by omega⟩ : Fin 256) k) := by blk_point [iblk, idx t]
  rw [e, V_v19]
  exact mix_read _ b s k
/-- The block of rows given in place of the call's own is the whole array. -/
theorem read3 (W : Vec Ideal S1x256x5376 .f32) (r : Fin 256) (k : Fin 5376) :
    (View.read (Elt Ideal) ((cfg0.win 3).blk t).view W : Vec Ideal S1x256x5376 .f32) (ix3 0 r k) = W (ix3 0 r k) := by
  blk_ext [idx t]
theorem blk3 (b : Fin 32) (q : Fin 2) (k : Fin 5376) :
    (iblk m c 3 t : Vec Ideal S1x256x5376 .f32) (ix3 0 (⟨b.val * 8 + (2 + q.val), by omega⟩ : Fin 256) k) = (args m c).st b q k :=
  (read3 t (V m c main_v20) _ k).trans ((congrFun (V_v20 m c) _).trans (oArr_read (arr3 m c) b q k))
theorem blk4 (k : Fin 512) (d : Fin 1024) : (iblk m c 4 t : Vec Ideal S512x1024 .bf16) (ix2 k d) = (args m c).wo ⟨k.val, by omega⟩ d := by
  have e : (iblk m c 4 t : Vec Ideal S512x1024 .bf16) (ix2 k d) = V m c main_v1 (ix2 k d) := by blk_point [iblk, idx t]
  rw [e, V_v1]
  pointwise [args]
theorem blk5 (k : Fin 512) (d : Fin 1024) : (iblk m c 5 t : Vec Ideal S512x1024 .bf16) (ix2 k d) = (args m c).wo ⟨512 + k.val, by omega⟩ d := by
  have e : (iblk m c 5 t : Vec Ideal S512x1024 .bf16) (ix2 k d) = V m c main_v3 (ix2 k d) := by blk_point [iblk, idx t]
  rw [e, V_v3]
  pointwise [args]
theorem blk6 (d : Fin 1024) : (iblk m c 6 t : Vec Ideal S1x1024 .f32) (ix2 0 d) = (args m c).aw d := by
  have e : (iblk m c 6 t : Vec Ideal S1x1024 .f32) (ix2 0 d) = V m c main_v4 (ix2 0 d) := by blk_point [iblk, idx t]
  rw [e, V_v4]
  pointwise [args]
theorem blk7 (d : Fin 1024) : (iblk m c 7 t : Vec Ideal S1x1024 .f32) (ix2 0 d) = (args m c).ab d := by
  have e : (iblk m c 7 t : Vec Ideal S1x1024 .f32) (ix2 0 d) = V m c main_v5 (ix2 0 d) := by blk_point [iblk, idx t]
  rw [e, V_v5]
  pointwise [args]
theorem blk9 (d : Fin 5376) : (iblk m c 9 t : Vec Ideal S1x5376 .f32) (ix2 0 d) = (args m c).bu d := by
  have e : (iblk m c 9 t : Vec Ideal S1x5376 .f32) (ix2 0 d) = V m c main_v7 (ix2 0 d) := by blk_point [iblk, idx t]
  rw [e, V_v7]
  pointwise [args]
theorem blk11 (d : Fin 5376) : (iblk m c 11 t : Vec Ideal S1x5376 .f32) (ix2 0 d) = (args m c).cb d := by
  have e : (iblk m c 11 t : Vec Ideal S1x5376 .f32) (ix2 0 d) = V m c main_v8 (ix2 0 d) := by blk_point [iblk, idx t]
  rw [e, V_v8]
  pointwise [args]
theorem blk13 (d : Fin 1024) : (iblk m c 13 t : Vec Ideal S1x1024 .f32) (ix2 0 d) = (args m c).bd d := by
  have e : (iblk m c 13 t : Vec Ideal S1x1024 .f32) (ix2 0 d) = V m c main_v10 (ix2 0 d) := by blk_point [iblk, idx t]
  rw [e, V_v10]
  pointwise [args]
theorem blk14 (d : Fin 1024) : (iblk m c 14 t : Vec Ideal S1x1024 .f32) (ix2 0 d) = (args m c).zw d := by
  have e : (iblk m c 14 t : Vec Ideal S1x1024 .f32) (ix2 0 d) = V m c main_v11 (ix2 0 d) := by blk_point [iblk, idx t]
  rw [e, V_v11]
  pointwise [args]
theorem blk15 (d : Fin 1024) : (iblk m c 15 t : Vec Ideal S1x1024 .f32) (ix2 0 d) = (args m c).zb d := by
  have e : (iblk m c 15 t : Vec Ideal S1x1024 .f32) (ix2 0 d) = V m c main_v12 (ix2 0 d) := by blk_point [iblk, idx t]
  rw [e, V_v12]
  pointwise [args]
theorem blk8 (k : Fin 1024) (d : Fin 5376) : (iblk m c 8 t : Vec Ideal S1024x5376 .bf16) (ix2 k d) = (args m c).wu k d := by
  have e : (iblk m c 8 t : Vec Ideal S1024x5376 .bf16) (ix2 k d) = V m c main_v6 (ix2 k d) := by blk_point [iblk, idx t]
  rw [e, V_v6]
  pointwise [args]
theorem blk10 (k : Fin 3) (d : Fin 5376) : (iblk m c 10 t : Vec Ideal S3x5376 .f32) (ix2 k d) = (args m c).cw k d := by
  have e : (iblk m c 10 t : Vec Ideal S3x5376 .f32) (ix2 k d) = V m c main_arg9 (ix2 k d) := by blk_point [iblk, idx t]
  rw [e, V_arg9]
  rfl
theorem blk12 (k : Fin 2688) (d : Fin 1024) : (iblk m c 12 t : Vec Ideal S2688x1024 .bf16) (ix2 k d) = (args m c).wd k d := by
  have e : (iblk m c 12 t : Vec Ideal S2688x1024 .bf16) (ix2 k d) = V m c main_v9 (ix2 k d) := by blk_point [iblk, idx t]
  rw [e, V_v9]
  pointwise [args]

end Cert.Kernel4Ideal.FfnS
-- ==== Proof.FfnSRows.lean ====
module

public import proofs.«01_k».proof.Proof.FfnSReads
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-! The new tokens' rows of the flattened batch are the layer's rows. -/

variable (c : Dev nD) (t : Fin cfg0.N)

/-- The normalised rows, the up-projection, and the rows the filter runs over. -/
def bx : Fin 256 → Fin 1024 → EReal := xone (iblk m c 0 t) (iblk m c 1 t) (iblk m c 2 t) (iblk m c 4 t) (iblk m c 5 t) (iblk m c 6 t) (iblk m c 7 t)
def bo : Fin 256 → Fin 5376 → EReal := over (iblk m c 3 t) (up (bx m c t) (iblk m c 8 t) (iblk m c 9 t))

variable (b : Fin 32) (s : Fin 4)

theorem pre_at : pre (iblk m c 0 t) (iblk m c 1 t) (iblk m c 2 t) (iblk m c 4 t) (iblk m c 5 t) ⟨b.val * 8 + (4 + s.val), by omega⟩ = (args m c).gpre b s := by
  funext d
  unfold pre SArgs.gpre
  simp only [blk0, blk1, blk2, blk4, blk5]

theorem bx_at : bx m c t ⟨b.val * 8 + (4 + s.val), by omega⟩ = (args m c).gx b s := by
  funext d
  unfold bx xone SArgs.gx
  simp only [pre_at, blk6, blk7]

theorem up_at (j : Fin 5376) : up (bx m c t) (iblk m c 8 t) (iblk m c 9 t) ⟨b.val * 8 + (4 + s.val), by omega⟩ j = (args m c).gup b s j := by
  unfold up SArgs.gup
  simp only [bx_at, blk8, blk9]

/-- From the third row of each eight on stand the cached rows and the new ones. -/
theorem bo_at (r : Fin 256) (q : Fin 6) (h : r.val = b.val * 8 + (2 + q.val)) (j : Fin 5376) : bo m c t r j = (args m c).full b q j := by
  obtain ⟨r, hr⟩ := r
  have hh : r = b.val * 8 + (2 + q.val) := h
  subst hh
  unfold bo over SArgs.full
  by_cases h2 : q.val < 2
  · rw [if_pos (show (b.val * 8 + (2 + q.val)) % 8 < 4 by omega), dif_pos h2]
    exact blk3 m c t b ⟨q.val, h2⟩ j
  · rw [if_neg (show ¬ (b.val * 8 + (2 + q.val)) % 8 < 4 by omega), dif_neg h2]
    refine Eq.trans ?_ (up_at m c t b ⟨q.val - 2, by omega⟩ j)
    congr 1
    exact Fin.ext (by show b.val * 8 + (2 + q.val) = b.val * 8 + (4 + (q.val - 2)); omega)

theorem conv_at (j : Fin 5376) : conv noRows (bo m c t) (iblk m c 10 t) (iblk m c 11 t) ⟨b.val * 8 + (4 + s.val), by omega⟩ j = (args m c).gconv b s j := by
  unfold conv SArgs.gconv back2 back1
  rw [dif_neg (show ¬ b.val * 8 + (4 + s.val) < 2 by omega), dif_neg (show ¬ b.val * 8 + (4 + s.val) < 1 by omega),
    bo_at m c t b _ ⟨s.val, by omega⟩ (by show b.val * 8 + (4 + s.val) - 2 = b.val * 8 + (2 + s.val); omega),
    bo_at m c t b _ ⟨1 + s.val, by omega⟩ (by show b.val * 8 + (4 + s.val) - 1 = b.val * 8 + (2 + (1 + s.val)); omega),
    bo_at m c t b _ ⟨2 + s.val, by omega⟩ (by show b.val * 8 + (4 + s.val) = b.val * 8 + (2 + (2 + s.val)); omega),
    blk10, blk10, blk10, blk11]

theorem gated_at (e : Fin 2688) : gated (conv noRows (bo m c t) (iblk m c 10 t) (iblk m c 11 t)) ⟨b.val * 8 + (4 + s.val), by omega⟩ e = (args m c).ggated b s e := by
  unfold gated SArgs.ggated
  rw [conv_at, conv_at]

/-- The three thirds of the down-projection make the whole. -/
theorem thirds (f : Fin 2688 → EReal) : (0 + (∑ k : Fin 896, f ⟨0 + k.val, by omega⟩) + ∑ k : Fin 896, f ⟨896 + k.val, by omega⟩)
    + (∑ k : Fin 896, f ⟨1792 + k.val, by omega⟩) = ∑ e : Fin 2688, f e := by
  rw [Fin.sum_univ_tiles 3 896 rfl f, Fin.sum_univ_three, zero_add]
  rfl

theorem fin_at : fin (bx m c t) (gated (conv noRows (bo m c t) (iblk m c 10 t) (iblk m c 11 t))) (iblk m c 12 t) (iblk m c 13 t) ⟨b.val * 8 + (4 + s.val), by omega⟩ = (args m c).gfin b s := by
  funext d
  unfold fin SArgs.gfin
  rw [← thirds]
  unfold part
  simp only [bx_at, gated_at, blk12, blk13]

/-- The row of the result the call writes at row `r`. -/
def outRow (r : Fin 256) (d : Fin 1024) : EReal :=
  lnrow (fin (bx m c t) (gated (conv noRows (bo m c t) (iblk m c 10 t) (iblk m c 11 t))) (iblk m c 12 t) (iblk m c 13 t) r)
    (fun d => (iblk m c 14 t : Vec Ideal S1x1024 .f32) (ix2 0 d)) (fun d => (iblk m c 15 t : Vec Ideal S1x1024 .f32) (ix2 0 d)) d

theorem outRow_at (d : Fin 1024) : outRow m c t ⟨b.val * 8 + (4 + s.val), by omega⟩ d = (args m c).gy b s d := by
  unfold outRow
  rw [fin_at]
  unfold SArgs.gy
  simp only [blk14, blk15]

end Cert.Kernel4Ideal.FfnS
-- ==== Proof.FfnSOpen.lean ====
module

public import proofs.«01_k».proof.Proof.FfnSParts
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! What the one grid point leaves, as the formulas of its blocks. -/

theorem pay17_f (M u v) : k0_pay17 (F := Ideal) M u v = k0_pay23 (k0_pay12 M u v) := by
  funext i
  idx_vars i
  exact (pay17_r _ _ _ _ _ _ _).trans (pay23_r _ _ _ _ _).symm
theorem pay31_f (M u v) : k0_pay31 (F := Ideal) M u v = k0_pay23 (k0_pay26 M u v) := by
  funext i
  idx_vars i
  exact (pay31_r _ _ _ _ _ _ _).trans (pay23_r _ _ _ _ _).symm
theorem pay45_f (M u v) : k0_pay45 (F := Ideal) M u v = k0_pay23 (k0_pay40 M u v) := by
  funext i
  idx_vars i
  exact (pay45_r _ _ _ _ _ _ _).trans (pay23_r _ _ _ _ _).symm

set_option maxHeartbeats 1000000 in
/-- The block of the result. -/
theorem op_out0_A_16 (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x5376 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x5376 .bf16) (harg10 : arg10.IsWhole) (arg11 : Memref sig .tc .vmem S1x5376 .f32) (harg11 : arg11.IsWhole) (arg12 : Memref sig .tc .vmem S3x5376 .f32) (harg12 : arg12.IsWhole) (arg13 : Memref sig .tc .vmem S1x5376 .f32) (harg13 : arg13.IsWhole) (arg14 : Memref sig .tc .vmem S2688x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x256x1024 .f32) (harg18 : arg18.IsWhole) (arg19 : Memref sig .tc .vmem S1x1x256x5376 .f32) (harg19 : arg19.IsWhole) (arg20 : Memref sig .tc .vmem S8x5376 .f32) (harg20 : arg20.IsWhole) (arg21 : Memref sig .tc .vmem S264x896 .f32) (harg21 : arg21.IsWhole) (hc0 : cond0_0 i)
    (x0 : Vec Ideal S1x256x1024 .f32) (x1 : Vec Ideal S1x256x512 .f32) (x2 : Vec Ideal S1x256x512 .f32) (x3 : Vec Ideal S1x256x5376 .f32) (x4 : Vec Ideal S512x1024 .bf16) (x5 : Vec Ideal S512x1024 .bf16) (x6 : Vec Ideal S1x1024 .f32) (x7 : Vec Ideal S1x1024 .f32) (x8 : Vec Ideal S1024x5376 .bf16) (x9 : Vec Ideal S1x5376 .f32) (x10 : Vec Ideal S3x5376 .f32) (x11 : Vec Ideal S1x5376 .f32) (x12 : Vec Ideal S2688x1024 .bf16) (x13 : Vec Ideal S1x1024 .f32) (x14 : Vec Ideal S1x1024 .f32) (x15 : Vec Ideal S1x1024 .f32) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = fun i : S1x256x1024.Idx => lnrow (fin (xone x0 x1 x2 x4 x5 x6 x7) (gated (conv noRows (over x3 (up (xone x0 x1 x2 x4 x5 x6 x7) x8 x9)) x10 x11)) x12 x13 (i 1)) (fun d => x14 (ix2 0 d)) (fun d => x15 (ix2 0 d)) (i 2) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  refine (View.canon_unit_zero z3 _ _).trans ?_
  simp only [ld_a, ld_b, ld_c, ld_d, pay7_eq, pay8_eq, pay15_t, pay29_t, pay43_t, pay24_t, pay38_t, pay52_t, pay12_u, pay14_u, pay20_u, pay26_u, pay28_u, pay32_u, pay34_u, pay40_u, pay42_u, pay46_u, pay48_u, pay13_c, pay19_c, pay27_c, pay33_c, pay41_c, pay47_c, pay53_c]
  simp (discharger := first | decide | rfl) only [View.readCov_skip, pay2_eq, covZ]
  simp only [pay18_eq, cov6, cov7]
  simp only [tapsA_eq, gateA_0, gateA_1, gateA_2, pay10_eq, downA_eq]
  rw [lastA_eq, pay1_eq]

set_option maxHeartbeats 1000000 in
/-- The rows handed out. -/
theorem op_out0_A_17 (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x5376 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x5376 .bf16) (harg10 : arg10.IsWhole) (arg11 : Memref sig .tc .vmem S1x5376 .f32) (harg11 : arg11.IsWhole) (arg12 : Memref sig .tc .vmem S3x5376 .f32) (harg12 : arg12.IsWhole) (arg13 : Memref sig .tc .vmem S1x5376 .f32) (harg13 : arg13.IsWhole) (arg14 : Memref sig .tc .vmem S2688x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x256x1024 .f32) (harg18 : arg18.IsWhole) (arg19 : Memref sig .tc .vmem S1x1x256x5376 .f32) (harg19 : arg19.IsWhole) (arg20 : Memref sig .tc .vmem S8x5376 .f32) (harg20 : arg20.IsWhole) (arg21 : Memref sig .tc .vmem S264x896 .f32) (harg21 : arg21.IsWhole) (hc0 : cond0_0 i)
    (x0 : Vec Ideal S1x256x1024 .f32) (x1 : Vec Ideal S1x256x512 .f32) (x2 : Vec Ideal S1x256x512 .f32) (x3 : Vec Ideal S1x256x5376 .f32) (x4 : Vec Ideal S512x1024 .bf16) (x5 : Vec Ideal S512x1024 .bf16) (x6 : Vec Ideal S1x1024 .f32) (x7 : Vec Ideal S1x1024 .f32) (x8 : Vec Ideal S1024x5376 .bf16) (x9 : Vec Ideal S1x5376 .f32) (x10 : Vec Ideal S3x5376 .f32) (x11 : Vec Ideal S1x5376 .f32) (x12 : Vec Ideal S2688x1024 .bf16) (x13 : Vec Ideal S1x1024 .f32) (x14 : Vec Ideal S1x1024 .f32) (x15 : Vec Ideal S1x1024 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = fun i : S1x1x256x5376.Idx => (over x3 (up (xone x0 x1 x2 x4 x5 x6 x7) x8 x9)) (i 2) (i 3) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  simp only [ld_a, ld_b, ld_c, ld_d, pay8_eq, pay12_u, pay14_u, pay20_u, pay26_u, pay28_u, pay32_u, pay34_u, pay40_u, pay42_u, pay46_u, pay48_u, pay13_c, pay19_c, pay27_c, pay33_c, pay41_c, pay47_c, pay53_c]
  simp only [pay17_f, pay31_f, pay45_f, pay8_eq, pay12_u, pay14_u, pay20_u, pay26_u, pay28_u, pay32_u, pay34_u, pay40_u, pay42_u, pay46_u, pay48_u, pay13_c, pay19_c, pay27_c, pay33_c, pay41_c, pay47_c, pay53_c]
  simp only [pay18_eq]
  generalize (over x3 (up (xone x0 x1 x2 x4 x5 x6 x7) x8 x9)) = U
  funext y
  idx_vars y
  canon_tiles x h
  all_goals
    idx_vars x
    first
    | (refine (pay23_r _ _ _ _ _).trans ?_; exact (congrArg₂ U (Fin.ext h2.symm) (Fin.ext (by first | exact h3.symm | exact (Nat.zero_add _).trans h3.symm))))
    | (refine (pay37_r _ _ _ _ _).trans ?_; exact (congrArg₂ U (Fin.ext h2.symm) (Fin.ext (by first | exact h3.symm | exact (Nat.zero_add _).trans h3.symm))))
    | (refine (pay51_r _ _ _ _ _).trans ?_; exact (congrArg₂ U (Fin.ext h2.symm) (Fin.ext (by first | exact h3.symm | exact (Nat.zero_add _).trans h3.symm))))

end Cert.Kernel4Ideal.FfnS
-- ==== Proof.FfnSFinal.lean ====
module

public import proofs.«01_k».proof.Proof.FfnSRows
public import proofs.«01_k».proof.Proof.FfnSOpen
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-! The two results of the feed-forward call of the sample, entry by entry. -/

variable (c : Dev nD)

/-- The one grid point. -/
def t0 : Fin cfg0.N := ⟨0, by decide⟩

theorem only (t : Fin cfg0.N) : t = t0 := Fin.ext (Nat.lt_one_iff.1 (lt_of_lt_of_eq t.isLt (by decide)))

theorem cov16 : (cfg0.win 16).Covers := by decide +kernel
theorem cov17 : (cfg0.win 17).Covers := by decide +kernel

theorem point16 (t : Fin cfg0.N) (y : S1x256x1024.Idx) : (outsAt0 m c t).1 y = outRow m c t (y 1) (y 2) := by
  unfold outsAt0
  dsimp only
  rw [op_out0_A_16]
  rfl

theorem point17 (t : Fin cfg0.N) (y : S1x1x256x5376.Idx) : (outsAt0 m c t).2 y = bo m c t (y 2) (y 3) := by
  unfold outsAt0
  dsimp only
  rw [op_out0_A_17]
  rfl

theorem final16 : (dats m 0 c).arrAt 16 (cfgs 0).N = fun i : S1x256x1024.Idx => outRow m c t0 (i 1) (i 2) := by
  refine (dats m 0 c).arrAt_eq_of_covers 16 _ cov16 fun t _ y => ?_
  rw [after0_16]
  refine (point16 m c t y).trans ?_
  rw [only t]
  generalize outRow m c t0 = g
  refine congr (congrArg g (Fin.ext ?_)) (Fin.ext ?_)
  · blk_simp [idx t0]
  · blk_simp [idx t0]

theorem final17 : (dats m 0 c).arrAt 17 (cfgs 0).N = fun i : S1x1x256x5376.Idx => bo m c t0 (i 2) (i 3) := by
  refine (dats m 0 c).arrAt_eq_of_covers 17 _ cov17 fun t _ y => ?_
  rw [after0_17]
  refine (point17 m c t y).trans ?_
  rw [only t]
  generalize bo m c t0 = g
  refine congr (congrArg g (Fin.ext ?_)) (Fin.ext ?_)
  · blk_simp [idx t0]
  · blk_simp [idx t0]

set_option maxHeartbeats 2000000 in
theorem after16 (V : Valuation τ sig (Elt Ideal)) : StableHlo.after (List.flatten [hostOps1]) V (Proc.devRef .tc main_v23)
    = extractStridedSlice S32x4x1024 ![0, 4, 0] (shapeCast S32x8x1024 (V (Proc.devRef .tc main_v21_0) : FVec Ideal S1x256x1024 .f32) shapeCasts_S1x256x1024_S32x8x1024) slices_S32x8x1024_S32x4x1024_0_4_0 := by
  simp only [hostOps1, List.flatten_cons, List.flatten_nil, List.append_nil]
  after_results
  all_goals rfl
theorem tail16 : Pipeline.afterTail₀ cfgs (dats m) 0 (V0 m) [hostOps1] c main_v23
    = extractStridedSlice S32x4x1024 ![0, 4, 0] (shapeCast S32x8x1024 ((dats m 0 c).arrAt 16 (cfgs 0).N : FVec Ideal S1x256x1024 .f32) shapeCasts_S1x256x1024_S32x8x1024) slices_S32x8x1024_S32x4x1024_0_4_0 := by
  have e : Pipeline.withArrays (cfgs 0).spec c (V0 m c) (fun w => (dats m 0 c).arrAt w (cfgs 0).N) (Proc.devRef .tc main_v21_0) = (dats m 0 c).arrAt 16 (cfgs 0).N :=
    Pipeline.withArrays_arr (cfgs 0).spec winFacts0.arr_inj c (V0 m c) (fun w => (dats m 0 c).arrAt w (cfgs 0).N) 16
  refine (after16 _).trans ?_
  rw [e]

set_option maxHeartbeats 2000000 in
theorem after17 (V : Valuation τ sig (Elt Ideal)) : StableHlo.after (List.flatten [hostOps1]) V (Proc.devRef .tc main_v25)
    = extractStridedSlice S32x2x5376 ![0, 6, 0] (shapeCast S32x8x5376 (V (Proc.devRef .tc main_v21_1) : FVec Ideal S1x1x256x5376 .f32) shapeCasts_S1x1x256x5376_S32x8x5376) slices_S32x8x5376_S32x2x5376_0_6_0 := by
  simp only [hostOps1, List.flatten_cons, List.flatten_nil, List.append_nil]
  after_results
  all_goals rfl
theorem tail17 : Pipeline.afterTail₀ cfgs (dats m) 0 (V0 m) [hostOps1] c main_v25
    = extractStridedSlice S32x2x5376 ![0, 6, 0] (shapeCast S32x8x5376 ((dats m 0 c).arrAt 17 (cfgs 0).N : FVec Ideal S1x1x256x5376 .f32) shapeCasts_S1x1x256x5376_S32x8x5376) slices_S32x8x5376_S32x2x5376_0_6_0 := by
  have e : Pipeline.withArrays (cfgs 0).spec c (V0 m c) (fun w => (dats m 0 c).arrAt w (cfgs 0).N) (Proc.devRef .tc main_v21_1) = (dats m 0 c).arrAt 17 (cfgs 0).N :=
    Pipeline.withArrays_arr (cfgs 0).spec winFacts0.arr_inj c (V0 m c) (fun w => (dats m 0 c).arrAt w (cfgs 0).N) 17
  refine (after17 _).trans ?_
  rw [e]

/-- The last four rows of each group of eight. -/
theorem lastFour (Y : FVec Ideal S1x256x1024 .f32) (b : Fin 32) (s : Fin 4) (j : Fin 1024) :
    extractStridedSlice S32x4x1024 ![0, 4, 0] (shapeCast S32x8x1024 Y shapeCasts_S1x256x1024_S32x8x1024) slices_S32x8x1024_S32x4x1024_0_4_0 (ix3 b s j) = Y (ix3 0 (⟨b.val * 8 + (4 + s.val), by omega⟩ : Fin 256) j) := by
  pointwise
  blk_ext

/-- The last two rows of each group of eight. -/
theorem lastTwo (Y : FVec Ideal S1x1x256x5376 .f32) (b : Fin 32) (s : Fin 2) (j : Fin 5376) :
    extractStridedSlice S32x2x5376 ![0, 6, 0] (shapeCast S32x8x5376 Y shapeCasts_S1x1x256x5376_S32x8x5376) slices_S32x8x5376_S32x2x5376_0_6_0 (ix3 b s j) = Y (ix4 0 0 (⟨b.val * 8 + (6 + s.val), by omega⟩ : Fin 256) j) := by
  pointwise
  blk_ext

theorem sees16 : Pipeline.afterTail₀ cfgs (dats m) 0 (V0 m) [hostOps1] c main_v23 = fun i : S32x4x1024.Idx => (args m c).gy (i 0) (i 1) (i 2) := by
  rw [tail16, final16]
  funext i
  obtain ⟨b, s, j, rfl⟩ : ∃ (b : Fin 32) (s : Fin 4) (j : Fin 1024), i = ix3 b s j := ⟨i 0, i 1, i 2, eq_ix3 i⟩
  rw [lastFour]
  exact outRow_at m c t0 b s j

theorem sees17 : Pipeline.afterTail₀ cfgs (dats m) 0 (V0 m) [hostOps1] c main_v25
    = fun i : S32x2x5376.Idx => (args m c).full (i 0) ⟨4 + (i 1).val, by have : (i 1).val < 2 := (i 1).isLt; omega⟩ (i 2) := by
  rw [tail17, final17]
  funext i
  obtain ⟨b, s, j, rfl⟩ : ∃ (b : Fin 32) (s : Fin 2) (j : Fin 5376), i = ix3 b s j := ⟨i 0, i 1, i 2, eq_ix3 i⟩
  rw [lastTwo]
  exact bo_at m c t0 b _ ⟨4 + s.val, by omega⟩ (by show b.val * 8 + (6 + s.val) = b.val * 8 + (2 + (4 + s.val)); omega) j

end Cert.Kernel4Ideal.FfnS
-- ==== Proof.FfnSRef.lean ====
module

public import proofs.«01_k».proof.Proof.Gen.Reference4Ideal.Run
public import Idealize.ShloMosaic.Lib.Pipeline.ValueKit
public import Idealize.ShloMosaic.Lib.KernelVsHost
public import Idealize.ShloMosaic.Lib.Pointwise
public import Idealize.ShloMosaic.Lib.Claim
public import proofs.«01_k».proof.Proof.FfnSForms

@[expose] public section

set_option maxRecDepth 16384

noncomputable section

namespace Cert.Reference4Ideal.FfnS

open Cert.Reference4Ideal Cert.Reference4Ideal.Gen Idealize.ShloMosaic Idealize.ShloMosaic.TcCoe Idealize.SL.Sem

open Cert.Ffn Cert.Reference4Ideal.Value

variable (V0 : Valuation τ sig (Elt Ideal))

abbrev arr0 : FVec Ideal S32x4x1024 .f32 := V0 (Proc.devRef .tc main_arg0)
abbrev arr1 : FVec Ideal S32x8x512 .f32 := V0 (Proc.devRef .tc main_arg1)
abbrev arr2 : FVec Ideal S32x8x512 .f32 := V0 (Proc.devRef .tc main_arg2)
abbrev arr3 : FVec Ideal S32x2x5376 .f32 := V0 (Proc.devRef .tc main_arg3)
abbrev arr4 : FVec Ideal S1024x1024 .f32 := V0 (Proc.devRef .tc main_arg4)
abbrev arr5 : FVec Ideal S1024 .f32 := V0 (Proc.devRef .tc main_arg5)
abbrev arr6 : FVec Ideal S1024 .f32 := V0 (Proc.devRef .tc main_arg6)
abbrev arr7 : FVec Ideal S1024x5376 .f32 := V0 (Proc.devRef .tc main_arg7)
abbrev arr8 : FVec Ideal S5376 .f32 := V0 (Proc.devRef .tc main_arg8)
abbrev arr9 : FVec Ideal S3x5376 .f32 := V0 (Proc.devRef .tc main_arg9)
abbrev arr10 : FVec Ideal S5376 .f32 := V0 (Proc.devRef .tc main_arg10)
abbrev arr11 : FVec Ideal S2688x1024 .f32 := V0 (Proc.devRef .tc main_arg11)
abbrev arr12 : FVec Ideal S1024 .f32 := V0 (Proc.devRef .tc main_arg12)
abbrev arr13 : FVec Ideal S1024 .f32 := V0 (Proc.devRef .tc main_arg13)
abbrev arr14 : FVec Ideal S1024 .f32 := V0 (Proc.devRef .tc main_arg14)

/-- The arguments, entry by entry. -/
def args : SArgs where
  x p q r := arr0 V0 (ix3 p q r)
  mm p q r := arr1 V0 (ix3 p q r)
  mn p q r := arr2 V0 (ix3 p q r)
  st p q r := arr3 V0 (ix3 p q r)
  wo p q := arr4 V0 (ix2 p q)
  aw p := arr5 V0 (ix1 p)
  ab p := arr6 V0 (ix1 p)
  wu p q := arr7 V0 (ix2 p q)
  bu p := arr8 V0 (ix1 p)
  cw p q := arr9 V0 (ix2 p q)
  cb p := arr10 V0 (ix1 p)
  wd p q := arr11 V0 (ix2 p q)
  bd p := arr12 V0 (ix1 p)
  zw p := arr13 V0 (ix1 p)
  zb p := arr14 V0 (ix1 p)

theorem args_x (p q r) : (args V0).x p q r = arr0 V0 (ix3 p q r) := rfl
theorem args_mm (p q r) : (args V0).mm p q r = arr1 V0 (ix3 p q r) := rfl
theorem args_mn (p q r) : (args V0).mn p q r = arr2 V0 (ix3 p q r) := rfl
theorem args_st (p q r) : (args V0).st p q r = arr3 V0 (ix3 p q r) := rfl
theorem args_wo (p q) : (args V0).wo p q = arr4 V0 (ix2 p q) := rfl
theorem args_aw (p) : (args V0).aw p = arr5 V0 (ix1 p) := rfl
theorem args_ab (p) : (args V0).ab p = arr6 V0 (ix1 p) := rfl
theorem args_wu (p q) : (args V0).wu p q = arr7 V0 (ix2 p q) := rfl
theorem args_bu (p) : (args V0).bu p = arr8 V0 (ix1 p) := rfl
theorem args_cw (p q) : (args V0).cw p q = arr9 V0 (ix2 p q) := rfl
theorem args_cb (p) : (args V0).cb p = arr10 V0 (ix1 p) := rfl
theorem args_wd (p q) : (args V0).wd p q = arr11 V0 (ix2 p q) := rfl
theorem args_bd (p) : (args V0).bd p = arr12 V0 (ix1 p) := rfl
theorem args_zw (p) : (args V0).zw p = arr13 V0 (ix1 p) := rfl
theorem args_zb (p) : (args V0).zb p = arr14 V0 (ix1 p) := rfl

variable (b : Fin 32) (s : Fin 4)

theorem v5_read (d : Fin 1024) : (res_main_v5 V0 : FVec Ideal S32x4x1024 .f32) (ix3 b s d) = (args V0).gpre b s d := by
  pointwise [res_main_v5, SArgs.gpre, resid, args_x, args_mm, args_mn, args_wo]

theorem v9_read : (res_main_v9 V0 : FVec Ideal S32x4x1 .f32) (ix3 b s 0) = mean ((args V0).gpre b s) := by
  pointwise [res_main_v9, mean, v5_read]

theorem v11_read (d : Fin 1024) : (res_main_v11 V0 : FVec Ideal S32x4x1024 .f32) (ix3 b s d) = (args V0).gpre b s d - mean ((args V0).gpre b s) := by
  pointwise [res_main_v11, v9_read, v5_read]

theorem v29_read (d : Fin 1024) : (res_main_v29 V0 : FVec Ideal S32x4x1024 .f32) (ix3 b s d) = (args V0).gx b s d := by
  pointwise [res_main_v29, v11_read, v9_read, v5_read, SArgs.gx, lnrow, args_aw, args_ab]

theorem v34_read (q : Fin 6) (j : Fin 5376) : (res_main_v34 V0 : FVec Ideal S32x6x5376 .f32) (ix3 b q j) = (args V0).full b q j := by
  pointwise [res_main_v34, v29_read, SArgs.full, SArgs.gup, args_wu, args_bu, args_st]

theorem v57_read (j : Fin 5376) : (res_main_v57 V0 : FVec Ideal S32x4x5376 .f32) (ix3 b s j) = (args V0).gconv b s j := by
  unfold SArgs.gconv
  rw [← v34_read, ← v34_read, ← v34_read]
  pointwise [res_main_v57, taps, args_cw, args_cb]
  blk_ext

theorem v58_read (e : Fin 2688) : (res_main_v58 V0 : FVec Ideal S32x4x2688 .f32) (ix3 b s e) = (args V0).gconv b s ⟨e.val, by omega⟩ := by
  rw [← v57_read]
  pointwise [res_main_v58]
  blk_ext

theorem v80_read (d : Fin 1024) : (res_main_v80 V0 : FVec Ideal S32x4x1024 .f32) (ix3 b s d) = (args V0).gfin b s d := by
  pointwise [res_main_v80, v58_read, v57_read, v29_read, SArgs.gfin, resid, SArgs.ggated, gate, args_wd, args_bd]

theorem v84_read : (res_main_v84 V0 : FVec Ideal S32x4x1 .f32) (ix3 b s 0) = mean ((args V0).gfin b s) := by
  pointwise [res_main_v84, mean, v80_read]

theorem v86_read (d : Fin 1024) : (res_main_v86 V0 : FVec Ideal S32x4x1024 .f32) (ix3 b s d) = (args V0).gfin b s d - mean ((args V0).gfin b s) := by
  pointwise [res_main_v86, v84_read, v80_read]

/-- The reference's output as its host operations compute it. -/
def out : FVec Ideal S32x4x1024 .f32 := addf (mulf (mulf (subf (res_main_v80 V0) (broadcastInDim S32x4x1024 ![0, 1, 2] bcast_S32x4x1_S32x4x1024_0_1_2 (res_main_v84 V0))) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (res_main_v86 V0) (res_main_v86 V0)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x3727C5AC#32)))))) (broadcastInDim S32x4x1024 ![0, 1, 2] bcast_S1x1x1024_S32x4x1024_0_1_2 (broadcastInDim S1x1x1024 ![2] bcast_S1024_S1x1x1024_2 (V0 (Proc.devRef .tc main_arg13))))) (broadcastInDim S32x4x1024 ![0, 1, 2] bcast_S1x1x1024_S32x4x1024_0_1_2 (broadcastInDim S1x1x1024 ![2] bcast_S1024_S1x1x1024_2 (V0 (Proc.devRef .tc main_arg14))))

theorem out_read : out V0 = fun i : S32x4x1024.Idx => (args V0).gy (i 0) (i 1) (i 2) := by
  funext i
  idx_vars i
  pointwise [out, v86_read, v84_read, v80_read, SArgs.gy, lnrow, args_zw, args_zb]

/-- The two rows of the up-projection the reference hands out. -/
def rows : FVec Ideal S32x2x5376 .f32 := extractStridedSlice S32x2x5376 ![0, 4, 0] (res_main_v34 V0) slices_S32x6x5376_S32x2x5376_0_4_0

theorem rows_read : rows V0 = fun i : S32x2x5376.Idx => (args V0).full (i 0) ⟨4 + (i 1).val, by have : (i 1).val < 2 := (i 1).isLt; omega⟩ (i 2) := by
  funext i
  idx_vars i
  pointwise [rows, v34_read]

end Cert.Reference4Ideal.FfnS
-- ==== Proof.FfnSAlgebra.lean ====
module

public import proofs.«01_k».proof.Proof.FfnSFinal
public import proofs.«01_k».proof.Proof.FfnSRef
public import proofs.«01_k».proof.Defs
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

namespace Cert.Kernel4Ideal.FfnS

open Cert.Kernel4Ideal Cert.Kernel4Ideal.Gen Idealize.ShloMosaic Idealize.ShloMosaic.TcCoe Idealize.SL.Sem
open Idealize.ShloMosaic.StableHlo
open Cert.Ffn

variable (m : (ℓ : Loc nD τ sig) → Buf (Elt Ideal) ℓ)

/-- Two lists of arguments that agree entry by entry are one. -/
theorem args_eq {a b : SArgs} (h0 : a.x = b.x) (h1 : a.mm = b.mm) (h2 : a.mn = b.mn) (h3 : a.st = b.st) (h4 : a.wo = b.wo) (h5 : a.aw = b.aw) (h6 : a.ab = b.ab) (h7 : a.wu = b.wu) (h8 : a.bu = b.bu) (h9 : a.cw = b.cw) (h10 : a.cb = b.cb) (h11 : a.wd = b.wd) (h12 : a.bd = b.bd) (h13 : a.zw = b.zw) (h14 : a.zb = b.zb) : a = b := by
  cases a; cases b
  congr

/-- What the run leaves in the two results and the fifteen arguments. -/
theorem run_results (ρ : Dev nD → PrngReg) : θ_run (defs (F := Ideal)) (onTc (τ := τ) (main (F := Ideal))) ⟨m, fun _ => 0, ρ⟩ (fun r => ∀ c : Dev nD,
      r.2.mem ((c.tc : Thread nD τ).loc main_v23) = (fun i : S32x4x1024.Idx => (args m c).gy (i 0) (i 1) (i 2))
      ∧ r.2.mem ((c.tc : Thread nD τ).loc main_v25) = (fun i : S32x2x5376.Idx => (args m c).full (i 0) ⟨4 + (i 1).val, by have : (i 1).val < 2 := (i 1).isLt; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v23 (Pipeline.mem_restRefs_of main_v23 (by decide) (by decide))).trans (sees16 m c),
    ((h c).2 main_v25 (Pipeline.mem_restRefs_of main_v25 (by decide) (by decide))).trans (sees17 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).1 10).trans (((dats m 0 c).arrAt_in 10 rfl _).trans ((A_eq m c 10).trans (V_main_arg9 m c))),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c)⟩) (run_main m ρ)

/-- The feed-forward call of the sample computes the reference's two results. -/
theorem algebraic : Cert.algebraic_Kernel4Ideal_Reference4Ideal := by
  intro m ρ m' ρ' _ hag
  refine ⟨_, _, run_results m ρ, (θ_run _ _ _).mono (fun _ h c => ?_) (Cert.Reference4Ideal.Value.run m' ρ')⟩
  obtain ⟨h0, h1, k⟩ := h c
  obtain ⟨e0, e1, e2, e3, e4, e5, e6, e7, e8, e9, e10, e11, e12, e13, e14⟩ := hag c
  have ea : Cert.Reference4Ideal.FfnS.args (launchContents m' c) = args m c := args_eq
    (funext fun p => funext fun q => funext fun r => congrFun e0 (ix3 p q r))
    (funext fun p => funext fun q => funext fun r => congrFun e1 (ix3 p q r))
    (funext fun p => funext fun q => funext fun r => congrFun e2 (ix3 p q r))
    (funext fun p => funext fun q => funext fun r => congrFun e3 (ix3 p q r))
    (funext fun p => funext fun q => congrFun e4 (ix2 p q))
    (funext fun p => congrFun e5 (ix1 p))
    (funext fun p => congrFun e6 (ix1 p))
    (funext fun p => funext fun q => congrFun e7 (ix2 p q))
    (funext fun p => congrFun e8 (ix1 p))
    (funext fun p => funext fun q => congrFun e9 (ix2 p q))
    (funext fun p => congrFun e10 (ix1 p))
    (funext fun p => funext fun q => congrFun e11 (ix2 p q))
    (funext fun p => congrFun e12 (ix1 p))
    (funext fun p => congrFun e13 (ix1 p))
    (funext fun p => congrFun e14 (ix1 p))
  refine ⟨h0.trans ?_, h1.trans ?_, k⟩
  · refine (Cert.Reference4Ideal.FfnS.out_read (launchContents m' c)).trans ?_
    rw [ea]
  · refine (Cert.Reference4Ideal.FfnS.rows_read (launchContents m' c)).trans ?_
    rw [ea]

end Cert.Kernel4Ideal.FfnS
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.FfnAlgebra
public import proofs.«01_k».proof.Proof.ProjAlgebra
public import proofs.«01_k».proof.Proof.ProjSAlgebra
public import proofs.«01_k».proof.Proof.FfnSAlgebra
public import Idealize.ShloMosaic.Adequacy
public import Idealize.ShloMosaic.Init

@[expose] public section

noncomputable section

namespace Cert.Proof

open Idealize.ShloMosaic Idealize.SL.Sem Cert.Kernel

/-- The feed-forward reference runs, keeps its arguments and leaves every counter at zero. -/
theorem frame_ffn_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The projection reference runs, keeps its arguments and leaves every counter at zero. -/
theorem frame_proj_ref : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run m ρ)

/-- The sample's projection reference runs, keeps its arguments and leaves every counter at zero. -/
theorem frame_proj_sample_ref : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

/-- The sample's feed-forward reference runs, keeps its arguments and leaves every counter at zero. -/
theorem frame_ffn_sample_ref : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  fun m ρ _ => Cert.Kernel.Gen.frame m ρ, fun m ρ _ => Cert.KernelIdeal.Gen.frame m ρ, frame_ffn_ref,
  fun m ρ _ => Cert.Kernel2.Gen.frame m ρ, fun m ρ _ => Cert.Kernel2Ideal.Gen.frame m ρ, frame_proj_ref,
  fun m ρ _ => Cert.Kernel3.Gen.frame m ρ, fun m ρ _ => Cert.Kernel3Ideal.Gen.frame m ρ, frame_proj_sample_ref,
  fun m ρ _ => Cert.Kernel4.Gen.frame m ρ, fun m ρ _ => Cert.Kernel4Ideal.Gen.frame m ρ, frame_ffn_sample_ref,
  trivial, Cert.KernelIdeal.Ffn.algebraic, trivial, Cert.Kernel2Ideal.Proj.algebraic,
  trivial, Cert.Kernel3Ideal.Proj.algebraic, trivial, Cert.Kernel4Ideal.FfnS.algebraic⟩

end Cert.Proof

end
